-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x256 : Shape := ⟨3, ![4, 256, 256]⟩
abbrev S100000x256 : Shape := ⟨2, ![100000, 256]⟩
abbrev S4x256 : Shape := ⟨2, ![4, 256]⟩
abbrev S_ : Shape := ⟨0, ![]⟩
abbrev S1024x256 : Shape := ⟨2, ![1024, 256]⟩
abbrev S100352x256 : Shape := ⟨2, ![100352, 256]⟩
abbrev S1024x100352 : Shape := ⟨2, ![1024, 100352]⟩
abbrev S256x256 : Shape := ⟨2, ![256, 256]⟩
abbrev S6272x256 : Shape := ⟨2, ![6272, 256]⟩
abbrev S256x6272 : Shape := ⟨2, ![256, 6272]⟩
abbrev S100352 : Shape := ⟨1, ![100352]⟩
abbrev S1x100352 : Shape := ⟨2, ![1, 100352]⟩
abbrev S1024x64 : Shape := ⟨2, ![1024, 64]⟩
abbrev S64 : Shape := ⟨1, ![64]⟩
abbrev S1x64 : Shape := ⟨2, ![1, 64]⟩
abbrev S1024x1 : Shape := ⟨2, ![1024, 1]⟩
abbrev S65536 : Shape := ⟨1, ![65536]⟩
abbrev S100352x2x128 : Shape := ⟨3, ![100352, 2, 128]⟩
abbrev S65536x2x128 : Shape := ⟨3, ![65536, 2, 128]⟩
abbrev S128 : Shape := ⟨1, ![128]⟩
abbrev S128x2x128 : Shape := ⟨3, ![128, 2, 128]⟩
abbrev S4x256x64x256 : Shape := ⟨4, ![4, 256, 64, 256]⟩

abbrev nBuf : Table → Nat
  | .hbm => 58
  | .local .tc .vmem => 6
  | .local .scVector .vmem => 2
  | _ => 0

abbrev bufTy : (tb : Table) → Fin (nBuf tb) → BufTy
  | .hbm, ⟨0, _⟩ => ⟨S4x256x256, .f32⟩
  | .hbm, ⟨1, _⟩ => ⟨S100000x256, .f32⟩
  | .hbm, ⟨2, _⟩ => ⟨S4x256, .i32⟩
  | .hbm, ⟨3, _⟩ => ⟨S_, .i32⟩
  | .hbm, ⟨4, _⟩ => ⟨S1024x256, .f32⟩
  | .hbm, ⟨5, _⟩ => ⟨S_, .i32⟩
  | .hbm, ⟨6, _⟩ => ⟨S_, .f32⟩
  | .hbm, ⟨7, _⟩ => ⟨S100352x256, .f32⟩
  | .hbm, ⟨8, _⟩ => ⟨S1024x100352, .f32⟩
  | .hbm, ⟨9, _⟩ => ⟨S100352, .i32⟩
  | .hbm, ⟨10, _⟩ => ⟨S_, .i32⟩
  | .hbm, ⟨11, _⟩ => ⟨S100352, .i32⟩
  | .hbm, ⟨12, _⟩ => ⟨S100352, .i1⟩
  | .hbm, ⟨13, _⟩ => ⟨S1x100352, .i1⟩
  | .hbm, ⟨14, _⟩ => ⟨S_, .f32⟩
  | .hbm, ⟨15, _⟩ => ⟨S1024x100352, .i1⟩
  | .hbm, ⟨16, _⟩ => ⟨S1024x100352, .f32⟩
  | .hbm, ⟨17, _⟩ => ⟨S1024x100352, .f32⟩
  | .hbm, ⟨18, _⟩ => ⟨S1024x64, .f32⟩
  | .hbm, ⟨19, _⟩ => ⟨S1024x64, .i32⟩
  | .hbm, ⟨20, _⟩ => ⟨S64, .i32⟩
  | .hbm, ⟨21, _⟩ => ⟨S1x64, .i32⟩
  | .hbm, ⟨22, _⟩ => ⟨S1024x1, .i32⟩
  | .hbm, ⟨23, _⟩ => ⟨S65536, .i32⟩
  | .hbm, ⟨24, _⟩ => ⟨S1024x64, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S1024x64, .i32⟩
  | .hbm, ⟨32, _⟩ => ⟨S1024x64, .i32⟩
  | .hbm, ⟨33, _⟩ => ⟨S_, .i32⟩
  | .hbm, ⟨34, _⟩ => ⟨S1024x64, .i32⟩
  | .hbm, ⟨35, _⟩ => ⟨S1024x64, .i1⟩
  | .hbm, ⟨36, _⟩ => ⟨S_, .i32⟩
  | .hbm, ⟨37, _⟩ => ⟨S1024x64, .i32⟩
  | .hbm, ⟨38, _⟩ => ⟨S1024x64, .i1⟩
  | .hbm, ⟨39, _⟩ => ⟨S_, .i32⟩
  | .hbm, ⟨40, _⟩ => ⟨S_, .i1⟩
  | .hbm, ⟨41, _⟩ => ⟨S1024x64, .i1⟩
  | .hbm, ⟨42, _⟩ => ⟨S1024x64, .i1⟩
  | .hbm, ⟨43, _⟩ => ⟨S1024x64, .i1⟩
  | .hbm, ⟨44, _⟩ => ⟨S1024x64, .i32⟩
  | .hbm, ⟨45, _⟩ => ⟨S1024x64, .i32⟩
  | .hbm, ⟨46, _⟩ => ⟨S1024x64, .i32⟩
  | .hbm, ⟨47, _⟩ => ⟨S_, .i32⟩
  | .hbm, ⟨48, _⟩ => ⟨S1024x64, .i32⟩
  | .hbm, ⟨49, _⟩ => ⟨S1024x64, .i32⟩
  | .hbm, ⟨50, _⟩ => ⟨S1024x64, .i32⟩
  | .hbm, ⟨51, _⟩ => ⟨S1024x64, .i32⟩
  | .hbm, ⟨52, _⟩ => ⟨S1024x64, .i1⟩
  | .hbm, ⟨53, _⟩ => ⟨S1024x64, .i32⟩
  | .hbm, ⟨54, _⟩ => ⟨S65536, .i32⟩
  | .hbm, ⟨55, _⟩ => ⟨S100352x2x128, .f32⟩
  | .hbm, ⟨56, _⟩ => ⟨S65536x2x128, .f32⟩
  | .hbm, ⟨57, _⟩ => ⟨S4x256x64x256, .f32⟩
  | .local .tc .vmem, ⟨0, _⟩ => ⟨S256x256, .f32⟩
  | .local .tc .vmem, ⟨1, _⟩ => ⟨S256x256, .f32⟩
  | .local .tc .vmem, ⟨2, _⟩ => ⟨S6272x256, .f32⟩
  | .local .tc .vmem, ⟨3, _⟩ => ⟨S6272x256, .f32⟩
  | .local .tc .vmem, ⟨4, _⟩ => ⟨S256x6272, .f32⟩
  | .local .tc .vmem, ⟨5, _⟩ => ⟨S256x6272, .f32⟩
  | .local .scVector .vmem, ⟨0, _⟩ => ⟨S128, .i32⟩
  | .local .scVector .vmem, ⟨1, _⟩ => ⟨S128x2x128, .f32⟩
  | _, _ => ⟨S4x256x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_call1_v0 : Ref sig .tc := ⟨.hbm, 15, rfl⟩
abbrev main_call1_v1 : Ref sig .tc := ⟨.hbm, 16, rfl⟩
abbrev main_v7 : Ref sig .tc := ⟨.hbm, 17, rfl⟩
abbrev main_values : Ref sig .tc := ⟨.hbm, 18, rfl⟩
abbrev main_indices : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_call2_v0 : Ref sig .tc := ⟨.hbm, 26, rfl⟩
abbrev main_call2_c : Ref sig .tc := ⟨.hbm, 27, rfl⟩
abbrev main_call2_v1 : Ref sig .tc := ⟨.hbm, 28, rfl⟩
abbrev main_call2_c_0 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_c_1 : Ref sig .tc := ⟨.hbm, 33, rfl⟩
abbrev main_call2_v5 : Ref sig .tc := ⟨.hbm, 34, rfl⟩
abbrev main_call2_v6 : Ref sig .tc := ⟨.hbm, 35, rfl⟩
abbrev main_call2_c_2 : Ref sig .tc := ⟨.hbm, 36, rfl⟩
abbrev main_call2_v7 : Ref sig .tc := ⟨.hbm, 37, rfl⟩
abbrev main_call2_v8 : Ref sig .tc := ⟨.hbm, 38, rfl⟩
abbrev main_call2_c_3 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_v12 : Ref sig .tc := ⟨.hbm, 43, rfl⟩
abbrev main_call2_v13 : Ref sig .tc := ⟨.hbm, 44, rfl⟩
abbrev main_call2_v14 : Ref sig .tc := ⟨.hbm, 45, rfl⟩
abbrev main_v13 : Ref sig .tc := ⟨.hbm, 46, rfl⟩
abbrev main_c_2 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v21_scv : Ref sig .scVector := ⟨.hbm, 55, rfl⟩
abbrev main_v20_scv : Ref sig .scVector := ⟨.hbm, 54, rfl⟩
abbrev main_v22_scv : Ref sig .scVector := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S6272x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x6272 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

@[reducible] def k1_t1_loop : Scf.Loop 32 :=
  let c0_i32_0 : BitVec 32 := 0#32
  let c16_i32 : BitVec 32 := 16#32
  let v3 : BitVec 32 := Scalar.addi c0_i32_0 c16_i32
  let c1_i32 : BitVec 32 := 1#32
  ⟨c0_i32_0, v3, c1_i32⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg8 : BitVec 32 := Scf.iv c0_i32_0 c1_i32 k1_t1
  let c128_i32 : BitVec 32 := 128#32
  let v4 : BitVec 32 := Scalar.muli arg8 c128_i32
  let v5 : BitVec 32 := Scalar.addi v2 v4
  ![v5.toNat]
def k1_off2 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg8 : BitVec 32 := Scf.iv c0_i32_0 c1_i32 k1_t1
  let c128_i32 : BitVec 32 := 128#32
  let v4 : BitVec 32 := Scalar.muli arg8 c128_i32
  let v5 : BitVec 32 := Scalar.addi v2 v4
  let c0_i32_8_r1 : BitVec 32 := 0#32
  let c0_i32_9_r1 : BitVec 32 := 0#32
  ![v5.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x256x256 : Shape := ⟨3, ![4, 256, 256]⟩
abbrev S100000x256 : Shape := ⟨2, ![100000, 256]⟩
abbrev S4x256 : Shape := ⟨2, ![4, 256]⟩
abbrev S_ : Shape := ⟨0, ![]⟩
abbrev S1024x256 : Shape := ⟨2, ![1024, 256]⟩
abbrev S256x100000 : Shape := ⟨2, ![256, 100000]⟩
abbrev S1024x100000 : Shape := ⟨2, ![1024, 100000]⟩
abbrev S1024x64 : Shape := ⟨2, ![1024, 64]⟩
abbrev S64 : Shape := ⟨1, ![64]⟩
abbrev S1x64 : Shape := ⟨2, ![1, 64]⟩
abbrev S1024x1 : Shape := ⟨2, ![1024, 1]⟩
abbrev S1024x64x1 : Shape := ⟨3, ![1024, 64, 1]⟩
abbrev S1024x64x256 : Shape := ⟨3, ![1024, 64, 256]⟩
abbrev S4x256x64x256 : Shape := ⟨4, ![4, 256, 64, 256]⟩

abbrev nBuf : Space → Nat
  | .hbm => 29
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S100000x256, .f32⟩
  | .hbm, ⟨2, _⟩ => ⟨S4x256, .i32⟩
  | .hbm, ⟨3, _⟩ => ⟨S_, .i32⟩
  | .hbm, ⟨4, _⟩ => ⟨S1024x256, .f32⟩
  | .hbm, ⟨5, _⟩ => ⟨S256x100000, .f32⟩
  | .hbm, ⟨6, _⟩ => ⟨S1024x100000, .f32⟩
  | .hbm, ⟨7, _⟩ => ⟨S1024x64, .f32⟩
  | .hbm, ⟨8, _⟩ => ⟨S1024x64, .i32⟩
  | .hbm, ⟨9, _⟩ => ⟨S64, .i32⟩
  | .hbm, ⟨10, _⟩ => ⟨S1x64, .i32⟩
  | .hbm, ⟨11, _⟩ => ⟨S1024x1, .i32⟩
  | .hbm, ⟨12, _⟩ => ⟨S1024x64, .i32⟩
  | .hbm, ⟨13, _⟩ => ⟨S1024x64, .i32⟩
  | .hbm, ⟨14, _⟩ => ⟨S1024x64, .i1⟩
  | .hbm, ⟨15, _⟩ => ⟨S1024x64, .f32⟩
  | .hbm, ⟨16, _⟩ => ⟨S_, .i32⟩
  | .hbm, ⟨17, _⟩ => ⟨S1024x64, .i32⟩
  | .hbm, ⟨18, _⟩ => ⟨S1024x64, .i1⟩
  | .hbm, ⟨19, _⟩ => ⟨S_, .i32⟩
  | .hbm, ⟨20, _⟩ => ⟨S1024x64, .i32⟩
  | .hbm, ⟨21, _⟩ => ⟨S1024x64, .i32⟩
  | .hbm, ⟨22, _⟩ => ⟨S1024x64, .i32⟩
  | .hbm, ⟨23, _⟩ => ⟨S1024x64x1, .i32⟩
  | .hbm, ⟨24, _⟩ => ⟨S1024x64x256, .f32⟩
  | .hbm, ⟨25, _⟩ => ⟨S1024x64x1, .f32⟩
  | .hbm, ⟨26, _⟩ => ⟨S1024x64x256, .f32⟩
  | .hbm, ⟨27, _⟩ => ⟨S1024x64x256, .f32⟩
  | .hbm, ⟨28, _⟩ => ⟨S4x256x64x256, .f32⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_values : Ref sig .tc := ⟨.hbm, 7, rfl⟩
abbrev main_indices : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Proof.Common.lean ====
/-
  What every module of this certificate shares: the program as the SparseCore launch theorem reads it (its
  configuration `K`, its body table `D`, its loop variants), the ghost state (the handshakes' rounds, the TensorCore
  pipeline's rounds, the transfers' counters), the three arrays the SparseCore call works on, and the value the call
  computes: row `idx[r]` of the table at row `r` of the output.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-- The pipeline's copy of the rounds. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The call's arrays -/

abbrev tLoc (d : Dev nD) : Loc nD τ sig := (SparseCore.T d).loc main_v21
abbrev iLoc (d : Dev nD) : Loc nD τ sig := (SparseCore.T d).loc main_v20
abbrev oLoc (d : Dev nD) : Loc nD τ sig := (SparseCore.T d).loc main_v22

/-- The row of the table a list word names. -/
def rowOfWord (w : BitVec 32) : Fin 100352 := ⟨w.toNat % 100352, Nat.mod_lt _ (by decide)⟩

/-- The table place that output place `x` is read from, for the list `ix`. -/
def srcIdx (ix : S65536.Idx → BitVec 32) (x : S65536x2x128.Idx) : S100352x2x128.Idx :=
  fun | 0 => rowOfWord (ix (fun | 0 => x 0)) | 1 => x 1 | 2 => x 2

/-- What the call computes: row `ix[r]` of the table at row `r`. -/
def gat (tb : S100352x2x128.Idx → Elt F .f32) (ix : S65536.Idx → BitVec 32) : S65536x2x128.Idx → Elt F .f32 :=
  fun x => tb (srcIdx ix x)

end Cert.Proof.Pool

end
-- ==== Proof.Tile.lean ====
/-
  One tile's task. A trip fetches its hundred and twenty-eight list words into scratch, gathers the table rows they
  name, and writes those rows out to its chunk of the output (`trip_run`); sixteen trips fill the tile's part of the
  output with `gat` (`tile_body`). The output is carried through the loop at the contents `mix k`: `gat` on the rows
  before trip `k`'s, what was there before on the others.
-/
module

public import proofs.«01_k».proof.Proof.Common

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "tV" => (Memref.whole Cert.KernelIdeal.main_v21_scv : Memref Cert.KernelIdeal.sig Kind.scVector Space.hbm Cert.KernelIdeal.S100352x2x128 EltTy.f32)
local notation "iV" => (Memref.whole Cert.KernelIdeal.main_v20_scv : Memref Cert.KernelIdeal.sig Kind.scVector Space.hbm Cert.KernelIdeal.S65536 EltTy.i32)
local notation "oV" => (Memref.whole Cert.KernelIdeal.main_v22_scv : Memref Cert.KernelIdeal.sig Kind.scVector Space.hbm Cert.KernelIdeal.S65536x2x128 EltTy.f32)
local notation "lV" => (Memref.whole Cert.KernelIdeal.cc1_scratch0 : Memref Cert.KernelIdeal.sig Kind.scVector Space.vmem Cert.KernelIdeal.S128 EltTy.i32)
local notation "rV" => (Memref.whole Cert.KernelIdeal.cc1_scratch1 : Memref Cert.KernelIdeal.sig Kind.scVector Space.vmem Cert.KernelIdeal.S128x2x128 EltTy.f32)

variable (d : Dev nD) (L : grid1.Coords)

abbrev cV (L : grid1.Coords) : Fin τ.nSC := (L 0).castLE hcore1
abbrev jV (L : grid1.Coords) : Fin τ.nSub := (L 1).castLE hsub1
abbrev VT (d : Dev nD) (L : grid1.Coords) : Thread nD τ := V d (cV L) (jV L)

/-- Trip `k`'s list words, its chunk of the output, and the whole table, as the task addresses them. -/
abbrev iCh (L : grid1.Coords) (k : Fin k1_t1_loop.trips) : Memref sig .scVector .hbm S128 .i32 :=
  (iV).slice (Rect.unit (s := S65536) (k1_off1 L k) S128.size (k1_off1_inb L k)) (fun _ => rfl)
abbrev oCh (L : grid1.Coords) (k : Fin k1_t1_loop.trips) : Memref sig .scVector .hbm S128x2x128 .f32 :=
  (oV).slice (Rect.unit (s := S65536x2x128) (k1_off2 L k) S128x2x128.size (k1_off2_inb L k)) (fun _ => rfl)
abbrev tAll : Memref sig .scVector .hbm S100352x2x128 .f32 :=
  (tV).slice (Rect.unit (s := S100352x2x128) ![0, 0, 0] S100352x2x128.size inb_S100352x2x128_S100352x2x128_0_0_0) (fun _ => rfl)

variable (tb : S100352x2x128.Idx → Elt F .f32) (ix : S65536.Idx → BitVec 32)

theorem trips_eq : k1_t1_loop.trips = 16 := by decide

/-- What a trip's fetch lands: its words of the list. -/
theorem fetch_apply (k : Fin k1_t1_loop.trips) (y : S128.Idx) :
    (iCh L k).view.read (Elt F) ix y = ix ((iCh L k).view.emb y) := (View.read_apply _ _).trans (cast_eq _ _)

theorem hin_of (hix : ∀ j, (ix j).toNat < 100352) (k : Fin k1_t1_loop.trips)
    (g0 : Buf (Elt F) ((lV).view.loc (VT d L))) (pay : S128.Idx → Elt F .i32)
    (hpay : pay = (iCh L k).view.read (Elt F) ix) :
    ∀ x, ((lV).view.read (Elt F) (View.write (Elt F) (lV).view g0 pay Finset.univ) x).toNat
      < S100352x2x128.size gathers_S100352x2x128_S128x2x128.axis := by
  subst hpay; intro x
  rw [View.write_whole_univ]
  simp only [Memref.view_whole, View.read_whole]
  rw [fetch_apply]
  exact hix _

theorem tAll_emb (z : S100352x2x128.Idx) : (tAll).view.emb z = z := by
  funext b
  apply Fin.ext
  match b with
  | 0 => show 0 + 1 * (z 0).val = (z 0).val; omega
  | 1 => show 0 + 1 * (z 1).val = (z 1).val; omega
  | 2 => show 0 + 1 * (z 2).val = (z 2).val; omega

theorem iCh_emb (k : Fin k1_t1_loop.trips) (y : S128.Idx) :
    (((iCh L k).view.emb y) 0).val = 4096 * (L 1).val + 2048 * (L 0).val + 128 * k.val + (y 0).val := by
  show k1_off1 L k 0 + 1 * (y 0).val = _
  rw [k1_off1_eq]; simp

theorem oCh_emb (k : Fin k1_t1_loop.trips) (y : S128x2x128.Idx) :
    (((oCh L k).view.emb y) 0).val = 4096 * (L 1).val + 2048 * (L 0).val + 128 * k.val + (y 0).val
      ∧ (((oCh L k).view.emb y) 1).val = (y 1).val ∧ (((oCh L k).view.emb y) 2).val = (y 2).val := by
  refine ⟨?_, ?_, ?_⟩
  · show k1_off2 L k 0 + 1 * (y 0).val = _
    rw [k1_off2_eq]; simp
  · show k1_off2 L k 1 + 1 * (y 1).val = _
    rw [k1_off2_eq]; simp
  · show k1_off2 L k 2 + 1 * (y 2).val = _
    rw [k1_off2_eq]; simp

/-- The rows a trip's gather lands are `gat`'s on the trip's chunk. -/
theorem chunk_value (hix : ∀ j, (ix j).toNat < 100352) (k : Fin k1_t1_loop.trips) (w : S128.Idx → Elt F .i32)
    (hw : w = (iCh L k).view.read (Elt F) ix) (hn) (hin : ∀ x, (w x).toNat < S100352x2x128.size gathers_S100352x2x128_S128x2x128.axis)
    (y : S128x2x128.Idx) :
    SparseCore.gatherPayload gathers_S100352x2x128_S128x2x128 ((tAll).view.read (Elt F) tb) (SparseCore.rows w hn hin) y
      = gat tb ix ((oCh L k).view.emb y) := by
  obtain ⟨h0, h1, h2⟩ := oCh_emb L k y
  unfold SparseCore.gatherPayload gat
  rw [View.read_apply, tAll_emb]
  refine (cast_eq _ _).trans (congrArg tb (funext fun b => Fin.ext ?_))
  match b with
  | 0 =>
    rw [show (gathers_S100352x2x128_S128x2x128.idx (SparseCore.rows w hn hin) y 0) = SparseCore.rows w hn hin (y 0) from
      Shape.Gathers.idx_axis _ _ _]
    show (w _).toNat = (ix _).toNat % 100352
    rw [Nat.mod_eq_of_lt (hix _), hw, fetch_apply]
    congr 2
    funext a
    match a with
    | 0 =>
      apply Fin.ext
      rw [iCh_emb]
      show _ = (((oCh L k).view.emb y) 0).val
      rw [h0]
      have e := Shape.rowMajor_val_one (S128.rowMajor.symm ((y 0).cast hn.symm))
      rw [Equiv.apply_symm_apply] at e
      have e' : (S128.rowMajor.symm ((y 0).cast hn.symm) 0).val = (y 0).val := e.symm
      exact congrArg (4096 * (L 1).val + 2048 * (L 0).val + 128 * k.val + ·) e'
  | 1 => rw [Shape.Gathers.idx_of_ne _ _ _ _ (by decide)]; exact h1.symm
  | 2 => rw [Shape.Gathers.idx_of_ne _ _ _ _ (by decide)]; exact h2.symm

theorem rows_congr {o z : ℕ} {w w' : S128.Idx → Elt F .i32} {hn hn' : S128.numel = o} {h : ∀ x, (w x).toNat < z} {h' : ∀ x, (w' x).toNat < z}
    (e : w = w') : SparseCore.rows w hn h = SparseCore.rows w' hn' h' := by
  subst e; rfl

/-- A chunk written whole with `G`'s words holds `G`. -/
theorem chunk_write (k : Fin k1_t1_loop.trips) (f G : S65536x2x128.Idx → Elt F .f32) (pay : S128x2x128.Idx → Elt F .f32)
    (hp : ∀ y, pay y = G ((oCh L k).view.emb y)) :
    ∀ x ∈ (oCh L k).view.set, (oCh L k).view.writes (Elt F) f [⟨Rect.whole S128x2x128, pay⟩] x = G x := by
  intro x hx
  obtain ⟨y, -, rfl⟩ := Finset.mem_map.mp hx
  have e : (oCh L k).view.read (Elt F) ((oCh L k).view.writes (Elt F) f [⟨Rect.whole S128x2x128, pay⟩]) y
      = (oCh L k).view.writes (Elt F) f [⟨Rect.whole S128x2x128, pay⟩] ((oCh L k).view.emb y) :=
    (View.read_apply _ _).trans (cast_eq _ _)
  rw [← e, View.read_writes_whole]
  exact hp y

/-- The three transfer cells of the tile at zero. -/
abbrev cellA (d : Dev nD) (L : grid1.Coords) : GSem nD τ sig := (VT d L, .dma cc1_scratch2.sem)
abbrev cellB (d : Dev nD) (L : grid1.Coords) : GSem nD τ sig := (VT d L, .dma cc1_scoped0.sem)
abbrev cellC (d : Dev nD) (L : grid1.Coords) : GSem nD τ sig := (VT d L, .dma cc1_scoped1.sem)

set_option maxHeartbeats 4000000 in
/-- One trip. -/
theorem trip_run (hix : ∀ j, (ix j).toNat < 100352) (k : Fin k1_t1_loop.trips) (q₁ q₂ : PosShare TreeShare)
    (O : CellTallies nD τ sig (HIx 1)) (W : Waits sig (HIx 1))
    (g0 : Buf (Elt F) ((lV).view.loc (VT d L))) (r0 : Buf (Elt F) ((rV).view.loc (VT d L)))
    (f : Buf (Elt F) ((oV).view.loc (VT d L))) :
    (iprop(Transfers.MayWaits (VT d L) (default : HIx 1) O
        ∗ ((iV).view.loc (VT d L) ↦{q₁} (ix : Buf (Elt F) (iLoc d)))
        ∗ ((tV).view.loc (VT d L) ↦{q₂} (tb : Buf (Elt F) (tLoc d)))
        ∗ ((oCh L k).view.loc (VT d L) ↦[(oCh L k).view.set]{fullShare} f)
        ∗ ((lV).view.loc (VT d L) ↦{fullShare} g0)
        ∗ ((rV).view.loc (VT d L) ↦{fullShare} r0)
        ∗ semVal (cellA d L) 0 ∗ semVal (cellB d L) 0 ∗ semVal (cellC d L) 0
        ∗ owes (VT d L) O W) : sProp 𝕄)
      ⊢ wp frame (wpE (defs₀ (F := F)) 𝒱₀ (VT d L) none) Set.univ
          (k1_t1_body L tV (Memref.isWhole_whole _) iV (Memref.isWhole_whole _) oV (Memref.isWhole_whole _)
            lV (Memref.isWhole_whole _) rV (Memref.isWhole_whole _) cc1_scratch2 cc1_scoped0 cc1_scoped1 k ⟨⟩)
          fun _ => iprop(((iV).view.loc (VT d L) ↦{q₁} (ix : Buf (Elt F) (iLoc d)))
            ∗ ((tV).view.loc (VT d L) ↦{q₂} (tb : Buf (Elt F) (tLoc d)))
            ∗ ((oCh L k).view.loc (VT d L) ↦[(oCh L k).view.set]{fullShare} (gat tb ix : Buf (Elt F) (oLoc d)))
            ∗ (∃ g, (lV).view.loc (VT d L) ↦{fullShare} g)
            ∗ (∃ r, (rV).view.loc (VT d L) ↦{fullShare} r)
            ∗ semVal (cellA d L) 0 ∗ semVal (cellB d L) 0 ∗ semVal (cellC d L) 0
            ∗ ∃ W', ⌜∀ p ∈ W', p ∈ W ∨ p.2 = none⌝ ∗ owes (VT d L) O W') := by
  iintro ⟨#Hmw, Hi, Ht, Ho, Hl, Hr, HA, HB, HC, HO⟩
  unfold k1_t1_body
  sl_exec
  have hN : ∀ h : S100352x2x128.Gathers 0 S128x2x128, ∑ j, ((rV).slice (S128x2x128.rowRect h.axis' j) (S128x2x128.stride_rowRect h.axis' j)).view.dmaCredit
      = (rV).view.dmaCredit := by decide +kernel
  have hrs : (rV).view.set = Finset.univ := View.set_whole _
  have hls : (lV).view.set = Finset.univ := View.set_whole _
  ihave Hts := (pointsTo_split_subset (ℓ := (tV).view.loc (VT d L)) (q := q₂) (f := (tb : Buf (Elt F) (tLoc d))) (S := Finset.univ) (Finset.subset_univ (tAll).view.set)).1 $$ Ht
  icases Hts with ⟨Hts, Htr⟩
  ihave Hr1 := (Entails.of_eq (show ((rV).view.loc (VT d L) ↦{fullShare} r0 : sProp 𝕄)
      = (rV).view.loc (VT d L) ↦[(rV).view.set]{fullShare} r0 by rw [hrs])) $$ Hr
  ihave Hl1 := (Entails.of_eq (show ((lV).view.loc (VT d L) ↦{fullShare} View.write (Elt F) (lV).view g0 (trip_run.sl.dma0 L ix k) Finset.univ : sProp 𝕄)
      = (lV).view.loc (VT d L) ↦[(lV).view.set]{fullShare} View.write (Elt F) (lV).view g0 (trip_run.sl.dma0 L ix k) Finset.univ
      by rw [hls])) $$ Hl
  iapply (SparseCore.wp_indirectGatherLocal countersEmb 𝒱₀ (VT d L) none (hg := gathers_S100352x2x128_S128x2x128) (default : HIx 1)
      (rV).view.dmaCredit (hN _) (by decide) (hin_of d L ix hix k g0 _ rfl)) $$ [Hts Hr1 Hl1 HA]
  · isplitl [Hts]; · iexact Hts
    isplitl [Hr1]; · iexact Hr1
    isplitl [Hl1]; · iexact Hl1
    iexact HA
  iintro Hfl
  sl_exec
  iapply (Transfers.wp_waitLocalO countersEmb 𝒱₀ (VT d L) none (default : HIx 1) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr1, Hts, Hl1⟩, HA, HO⟩
  ihave Ht := (pointsTo_split_subset (ℓ := (tV).view.loc (VT d L)) (q := q₂) (f := (tb : Buf (Elt F) (tLoc d))) (S := Finset.univ) (Finset.subset_univ (tAll).view.set)).2 $$ [Hts Htr]
  · isplitl [Hts] <;> iassumption
  ihave Hr2 := (Entails.of_eq (show ((rV).view.loc (VT d L) ↦[(rV).view.set]{fullShare} _ : sProp 𝕄)
      = (rV).view.loc (VT d L) ↦{fullShare} _ by rw [hrs])) $$ Hr1
  ihave Hl2 := (Entails.of_eq (show ((lV).view.loc (VT d L) ↦[(lV).view.set]{fullShare} _ : sProp 𝕄)
      = (lV).view.loc (VT d L) ↦{fullShare} _ by rw [hls])) $$ Hl1
  sl_exec
  sl_step
  isplitl [Hi]; · iexact Hi
  isplitl [Ht]; · iexact Ht
  isplitl [Ho]
  · iapply (Entails.of_eq (pointsTo_congr (ℓ := (oCh L k).view.loc (VT d L)) (q := fullShare) (chunk_write L k f (gat tb ix) _ (fun y => ?_)))) $$ Ho
    show (rV).view.read (Elt F) (View.write (Elt F) (rV).view r0 _ Finset.univ) y = _
    rw [View.write_whole_univ]
    simp only [Memref.view_whole, View.read_whole]
    refine Eq.trans ?_ (chunk_value L tb ix hix k ((iCh L k).view.read (Elt F) ix) rfl rfl (fun x => by rw [fetch_apply]; exact hix _) y)
    refine congrArg (fun r => SparseCore.gatherPayload gathers_S100352x2x128_S128x2x128 _ r y) (rows_congr ?_)
    rw [View.write_whole_univ]
  isplitl [Hl2]; · iexists _; iexact Hl2
  isplitl [Hr2]; · iexists _; iexact Hr2
  isplitl [HA]; · iexact HA
  isplitl [HB]; · iexact HB
  isplitl [HC]; · iexact HC
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The task -/

/-- The tile's number, and its part of the output. -/
def wid (L : grid1.Coords) : Fin 32 := ⟨2 * (L 1).val + (L 0).val, by
  have h0 : (L 0).val < 2 := (L 0).isLt
  have h1 : (L 1).val < 16 := (L 1).isLt
  omega⟩
def oSet (w : Fin 32) : Finset S65536x2x128.Idx := Finset.univ.filter fun x => (x 0).val / 2048 = w.val

/-- The output before trip `k`: `G` on the rows already done, `f0` on the others. -/
def mix (f0 G : S65536x2x128.Idx → Elt F .f32) (k : ℕ) : S65536x2x128.Idx → Elt F .f32 :=
  fun x => if (x 0).val < 2048 * (wid L).val + 128 * k then G x else f0 x

theorem mem_oCh (k : Fin k1_t1_loop.trips) (x : S65536x2x128.Idx) :
    x ∈ (oCh L k).view.set ↔ 2048 * (wid L).val + 128 * k.val ≤ (x 0).val ∧ (x 0).val < 2048 * (wid L).val + 128 * k.val + 128 := by
  have hw : 2048 * (wid L).val = 4096 * (L 1).val + 2048 * (L 0).val := by
    show 2048 * (2 * (L 1).val + (L 0).val) = _
    omega
  constructor
  · intro hx
    obtain ⟨y, -, rfl⟩ := Finset.mem_map.mp hx
    obtain ⟨h0, -, -⟩ := oCh_emb L k y
    have hy : (y 0).val < 128 := (y 0).isLt
    omega
  · rintro ⟨h1, h2⟩
    let y : S128x2x128.Idx := fun
      | 0 => ⟨(x 0).val - (2048 * (wid L).val + 128 * k.val), by show _ < 128; omega⟩
      | 1 => x 1
      | 2 => x 2
    refine Finset.mem_map.mpr ⟨y, Finset.mem_univ _, ?_⟩
    obtain ⟨e0, e1, e2⟩ := oCh_emb L k y
    funext b
    apply Fin.ext
    match b with
    | 0 =>
      refine e0.trans ?_
      show 4096 * (L 1).val + 2048 * (L 0).val + 128 * k.val + ((x 0).val - (2048 * (wid L).val + 128 * k.val)) = _
      omega
    | 1 => exact e1
    | 2 => exact e2

theorem oCh_subset (k : Fin k1_t1_loop.trips) : (oCh L k).view.set ⊆ oSet (wid L) := by
  intro x hx
  obtain ⟨h1, h2⟩ := (mem_oCh L k x).mp hx
  have hk : k.val < 16 := lt_of_lt_of_eq k.isLt trips_eq
  refine Finset.mem_filter.mpr ⟨Finset.mem_univ _, ?_⟩
  omega

theorem mix_zero (f0 G : S65536x2x128.Idx → Elt F .f32) : ∀ x ∈ oSet (wid L), f0 x = mix L f0 G 0 x := by
  intro x hx
  have h := (Finset.mem_filter.mp hx).2
  unfold mix
  rw [if_neg (by omega)]
theorem mix_last (f0 G : S65536x2x128.Idx → Elt F .f32) : ∀ x ∈ oSet (wid L), mix L f0 G k1_t1_loop.trips x = G x := by
  intro x hx
  have h := (Finset.mem_filter.mp hx).2
  unfold mix
  rw [trips_eq, if_pos (by omega)]
theorem mix_chunk (f0 G : S65536x2x128.Idx → Elt F .f32) (k : Fin k1_t1_loop.trips) :
    ∀ x ∈ (oCh L k).view.set, G x = mix L f0 G (k.val + 1) x := by
  intro x hx
  obtain ⟨h1, h2⟩ := (mem_oCh L k x).mp hx
  unfold mix
  rw [if_pos (by omega)]
theorem mix_rest (f0 G : S65536x2x128.Idx → Elt F .f32) (k : Fin k1_t1_loop.trips) :
    ∀ x ∈ oSet (wid L) \ (oCh L k).view.set, mix L f0 G k.val x = mix L f0 G (k.val + 1) x := by
  intro x hx
  have hn := (Finset.mem_sdiff.mp hx).2
  rw [mem_oCh] at hn
  unfold mix
  by_cases h : (x 0).val < 2048 * (wid L).val + 128 * k.val
  · rw [if_pos h, if_pos (by omega)]
  · rw [if_neg h, if_neg (by omega)]

theorem ownSems0_V :
    (ownSems0 (VT d L) : sProp 𝕄)
      = iprop(semVal (cellA d L) 0 ∗ semVal (cellB d L) 0 ∗ semVal (cellC d L) 0
          ∗ bigSep ((((ownCells (VT d L)).erase (cellA d L)).erase (cellB d L)).erase (cellC d L)) fun g => semVal g 0) := by
  unfold SparseCore.Cfg.ownSems0
  rw [SparseCore.bigSep_erase' ((mem_ownCells (g := cellA d L)).mpr ⟨rfl, by
      show (SemLoc.dma cc1_scratch2.sem : SemLoc sig).isScoped .scVector = true; decide⟩),
    SparseCore.bigSep_erase' (Finset.mem_erase.mpr ⟨by simp [cellA, cellB]; decide, (mem_ownCells (g := cellB d L)).mpr ⟨rfl, by
      show (SemLoc.dma cc1_scoped0.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d L)).mpr ⟨rfl, by show (SemLoc.dma cc1_scoped1.sem : SemLoc sig).isScoped .scVector = true; decide⟩⟩⟩)]

/-- The two scratch buffers are among the tile's own: they are them, at some contents, and the rest. -/
theorem ownBufs_V :
    (ownBufs (VT d L) : sProp 𝕄)
      = iprop((∃ f, (VT d L).loc cc1_scratch0 ↦{fullShare} f) ∗ (∃ f, (VT d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- What a tile is handed (the list and the table at a share, its part of the output) and what it hands back. -/
abbrev tileIn (d : Dev nD) (w : Fin 32) (q : PosShare TreeShare) (tb : S100352x2x128.Idx → Elt F .f32) (ix : S65536.Idx → BitVec 32)
    (f : S65536x2x128.Idx → Elt F .f32) : sProp 𝕄 :=
  iprop((iLoc d ↦{q} (ix : Buf (Elt F) (iLoc d))) ∗ (tLoc d ↦{q} (tb : Buf (Elt F) (tLoc d)))
    ∗ oLoc d ↦[oSet w]{fullShare} (f : Buf (Elt F) (oLoc d)))

/-- The loop's invariant. -/
abbrev tileInv (q : PosShare TreeShare) (f0 : S65536x2x128.Idx → Elt F .f32)
    (O : CellTallies nD τ sig (HIx 1)) (W : Waits sig (HIx 1)) (k : ℕ) (_ : PUnit) : sProp 𝕄 :=
  iprop(Transfers.MayWaits (VT d L) (default : HIx 1) O
    ∗ ((iV).view.loc (VT d L) ↦{q} (ix : Buf (Elt F) (iLoc d)))
    ∗ ((tV).view.loc (VT d L) ↦{q} (tb : Buf (Elt F) (tLoc d)))
    ∗ (oLoc d ↦[oSet (wid L)]{fullShare} (mix L f0 (gat tb ix) k : Buf (Elt F) (oLoc d)))
    ∗ (∃ g, (lV).view.loc (VT d L) ↦{fullShare} g)
    ∗ (∃ r, (rV).view.loc (VT d L) ↦{fullShare} r)
    ∗ semVal (cellA d L) 0 ∗ semVal (cellB d L) 0 ∗ semVal (cellC d L) 0
    ∗ ∃ W', ⌜∀ p ∈ W', p ∈ W ∨ p.2 = none⌝ ∗ owes (VT d L) O W')

theorem trip_inv (hix : ∀ j, (ix j).toNat < 100352) (q : PosShare TreeShare) (f0 : S65536x2x128.Idx → Elt F .f32)
    (O : CellTallies nD τ sig (HIx 1)) (W : Waits sig (HIx 1)) (k : Fin k1_t1_loop.trips) (acc : PUnit) :
    tileInv d L tb ix q f0 O W k.val acc
      ⊢ wp frame (wpE (defs₀ (F := F)) 𝒱₀ (VT d L) none) Set.univ
          (k1_t1_body L tV (Memref.isWhole_whole _) iV (Memref.isWhole_whole _) oV (Memref.isWhole_whole _)
            lV (Memref.isWhole_whole _) rV (Memref.isWhole_whole _) cc1_scratch2 cc1_scoped0 cc1_scoped1 k acc)
          (tileInv d L tb ix q f0 O W (k.val + 1)) := by
  iintro ⟨#Hmw, Hi, Ht, Ho, ⟨%g0, Hl⟩, ⟨%r0, Hr⟩, HA, HB, HC, ⟨%W₁, %hW₁, HO⟩⟩
  ihave Hos := (pointsTo_split_subset (ℓ := oLoc d) (q := fullShare) (f := (mix L f0 (gat tb ix) k.val : Buf (Elt F) (oLoc d))) (oCh_subset L k)).1 $$ Ho
  icases Hos with ⟨Hoc, Hor⟩
  iapply (wp_wand_r Idealize.ShloMosaic.frame (wpE (defs₀ (F := F)) 𝒱₀ (VT d L) none) Set.univ)
  isplitl [Hi Ht Hoc Hl Hr HA HB HC HO]
  · iapply (trip_run d L tb ix hix k q q O W₁ g0 r0 (mix L f0 (gat tb ix) k.val))
    isplitr; · iexact Hmw
    isplitl [Hi]; · iexact Hi
    isplitl [Ht]; · iexact Ht
    isplitl [Hoc]; · iexact Hoc
    isplitl [Hl]; · iexact Hl
    isplitl [Hr]; · iexact Hr
    isplitl [HA]; · iexact HA
    isplitl [HB]; · iexact HB
    isplitl [HC]; · iexact HC
    iexact HO
  iintro %_ ⟨Hi, Ht, Hoc, Hl, Hr, HA, HB, HC, ⟨%W₂, %hW₂, HO⟩⟩
  ihave Hoc' := (Entails.of_eq (pointsTo_congr (ℓ := oLoc d) (q := fullShare) (mix_chunk L f0 (gat tb ix) k))) $$ Hoc
  ihave Hor' := (Entails.of_eq (pointsTo_congr (ℓ := oLoc d) (q := fullShare) (mix_rest L f0 (gat tb ix) k))) $$ Hor
  ihave Ho := (pointsTo_split_subset (ℓ := oLoc d) (q := fullShare) (f := (mix L f0 (gat tb ix) (k.val + 1) : Buf (Elt F) (oLoc d))) (oCh_subset L k)).2 $$ [Hoc' Hor']
  · isplitl [Hoc'] <;> iassumption
  isplitr; · iexact Hmw
  isplitl [Hi]; · iexact Hi
  isplitl [Ht]; · iexact Ht
  isplitl [Ho]; · iexact Ho
  isplitl [Hl]; · iexact Hl
  isplitl [Hr]; · iexact Hr
  isplitl [HA]; · iexact HA
  isplitl [HB]; · iexact HB
  isplitl [HC]; · iexact HC
  iexists W₂
  isplitr; swap; · iexact HO
  ipureintro; intro p hp
  rcases hW₂ p hp with h | h
  · exact hW₁ p h
  · exact .inr h

set_option maxHeartbeats 4000000 in
/-- The task: from the tile's part of the output at `f0` to that part at `gat`. -/
theorem tile_body (hF : (K (F := F)).Facts) (hix : ∀ j, (ix j).toNat < 100352) (q : PosShare TreeShare)
    (f0 : S65536x2x128.Idx → Elt F .f32) (O : CellTallies nD τ sig (HIx 1)) (W : Waits sig (HIx 1)) (hO : ∀ g, O g none = 0) :
    iprop(levAts (K (F := F)).L (K (F := F)).lev ∗ emp ∗ tileIn d (wid L) q tb ix f0
        ∗ scopedBufs (VT d L) ∗ scopedSems0 (VT d L) ∗ owes (VT d L) O W)
      ⊢ wp frame (wpE (defs₀ (F := F)) 𝒱₀ (VT d L) none) Set.univ
          (cc1_k L tV (Memref.isWhole_whole _) iV (Memref.isWhole_whole _) oV (Memref.isWhole_whole _)
            lV (Memref.isWhole_whole _) rV (Memref.isWhole_whole _) cc1_scratch2 cc1_scoped0 cc1_scoped1)
          fun _ => iprop(tileIn d (wid L) q tb ix (gat tb ix)
            ∗ scopedBufs (VT d L) ∗ scopedSems0 (VT d L)
            ∗ ∃ W', ⌜∀ p ∈ W', p ∈ W ∨ p.2 = none⌝ ∗ owes (VT d L) O W') := by
  simp only [cc1_k_eq_skeleton]; unfold cc1_k_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨Hl, Hr, Hbufs⟩, ⟨HA, HB, HC, Hsems⟩, HO⟩
  ihave Hmw := (show levAts (K (F := F)).L (K (F := F)).lev ⊢ Transfers.MayWaits (VT d L) (default : HIx 1) O from
    (K (F := F)).mayWaits_none (thr := VT d L) hO) $$ Hlv
  ihave Ho' := (Entails.of_eq (pointsTo_congr (ℓ := oLoc d) (q := fullShare) (mix_zero L f0 (gat tb ix)))) $$ Ho
  sl_for (tileInv d L tb ix q f0 O W) $$ [Hmw Hi Ht Ho' Hl Hr HA HB HC HO]
  · exact fun k acc => trip_inv d L tb ix hix q f0 O W k acc
  · isplitl [Hmw]; · iexact Hmw
    isplitl [Hi]; · iexact Hi
    isplitl [Ht]; · iexact Ht
    isplitl [Ho']; · iexact Ho'
    isplitl [Hl]; · iexact Hl
    isplitl [Hr]; · iexact Hr
    isplitl [HA]; · iexact HA
    isplitl [HB]; · iexact HB
    isplitl [HC]; · iexact HC
    iexists W; isplitr; swap; · iexact HO
    ipureintro; exact fun p hp => .inl hp
  iintro %acc ⟨-, Hi, Ht, Ho, Hl, Hr, HA, HB, HC, HO⟩
  ihave Ho' := (Entails.of_eq (pointsTo_congr (ℓ := oLoc d) (q := fullShare) (mix_last L f0 (gat tb ix)))) $$ Ho
  sl_step
  isplitl [Hi Ht Ho']
  · isplitl [Hi]; · iexact Hi
    isplitl [Ht]; · iexact Ht
    iexact Ho'
  isplitl [Hl Hr Hbufs]
  · isplitl [Hl]; · iexact Hl
    isplitl [Hr]; · iexact Hr
    iexact Hbufs
  isplitl [HA HB HC Hsems]
  · isplitl [HA]; · iexact HA
    isplitl [HB]; · iexact HB
    isplitl [HC]; · iexact HC
    iexact Hsems
  iexact HO

end Cert.Proof.Pool

end
-- ==== Proof.Call.lean ====
/-
  The SparseCore call as the launch theorem sees it. The two cores' sixteen tiles are thirty-two; each is handed a
  share of the table and of the index list and its own part of the output, and brings them back, the output's part at
  the rows gathered. The list, the table and the output's first contents are parameters (`CallData`), the list's
  words in range of the table.
-/
module

public import proofs.«01_k».proof.Proof.Tile
public import Idealize.ShloMosaic.Lib.ShareLeaves

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- What the call finds: on each device the table, the list (every word a row of the table) and the output's contents. -/
structure CallData (F : FTy → Type) [FloatOps F] where
  tb : Dev nD → S100352x2x128.Idx → Elt F .f32
  ix : Dev nD → S65536.Idx → BitVec 32
  o0 : Dev nD → S65536x2x128.Idx → Elt F .f32
  inRange : ∀ d j, (ix d j).toNat < 100352

variable (cd : CallData F)

/-- Tile `(c, i)`'s number. -/
def tileNo (c : Fin 2) (i : Fin 16) : Fin 32 := ⟨2 * i.val + c.val, by omega⟩

/-- The thirty-two tiles are two cores of sixteen. -/
def tiles : Fin 2 × Fin 16 ≃ Fin 32 where
  toFun p := tileNo p.1 p.2
  invFun w := (⟨w.val % 2, by omega⟩, ⟨w.val / 2, by omega⟩)
  left_inv p := by
    obtain ⟨c, i⟩ := p
    refine Prod.ext (Fin.ext ?_) (Fin.ext ?_)
    · show (2 * i.val + c.val) % 2 = c.val
      omega
    · show (2 * i.val + c.val) / 2 = i.val
      omega
  right_inv w := Fin.ext (by show 2 * (w.val / 2) + w.val % 2 = w.val; omega)

/-- Tile `w`'s share of what all tiles read. -/
abbrev shareOf (w : Fin 32) : PosShare TreeShare := ShareLeaves.leaf 5 fullShare w

abbrev goAt (d : Dev nD) (c : Fin 2) (i : Fin 16) : sProp 𝕄 :=
  tileIn d (tileNo c i) (shareOf (tileNo c i)) (cd.tb d) (cd.ix d) (cd.o0 d)
abbrev tdAt (d : Dev nD) (c : Fin 2) (i : Fin 16) : sProp 𝕄 :=
  tileIn d (tileNo c i) (shareOf (tileNo c i)) (cd.tb d) (cd.ix d) (gat (cd.tb d) (cd.ix d))

/-- What each message of the call carries. -/
def P : (K (F := F)).Pay (nD := nD) (Val := Elt F) (Name := ℕ) (U := UU) where
  st := fun q d c => match q with | 0 => bigSep Finset.univ fun i : Fin 16 => goAt cd d (Fin.cast nCore_zero c) i
  dn := fun q d c => match q with | 0 => bigSep Finset.univ fun i : Fin 16 => tdAt cd d (Fin.cast nCore_zero c) i
  go := fun q d c i => match q with | 0 => goAt cd d (Fin.cast nCore_zero c) (Fin.cast nSub_zero i)
  td := fun q d c i => match q with | 0 => tdAt cd d (Fin.cast nCore_zero c) (Fin.cast nSub_zero i)
  x := fun _ _ => iprop(emp)

instance P_storable : (P cd).IsStorable where
  st q d c := match q with
    | 0 => (inferInstance : BI.Storable (upEmb : UEmb _ 𝕄) (bigSep Finset.univ fun i : Fin 16 => goAt cd d (Fin.cast nCore_zero c) i))
  dn q d c := match q with
    | 0 => (inferInstance : BI.Storable (upEmb : UEmb _ 𝕄) (bigSep Finset.univ fun i : Fin 16 => tdAt cd d (Fin.cast nCore_zero c) i))
  go q d c i := match q with
    | 0 => (inferInstance : BI.Storable (upEmb : UEmb _ 𝕄) (goAt cd d (Fin.cast nCore_zero c) (Fin.cast nSub_zero i)))
  td q d c i := match q with
    | 0 => (inferInstance : BI.Storable (upEmb : UEmb _ 𝕄) (tdAt cd d (Fin.cast nCore_zero c) (Fin.cast nSub_zero i)))

/-! ## The tile's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_k (coordsV c s)
          (Memref.whole main_v21_scv) (Memref.isWhole_whole _) (Memref.whole main_v20_scv) (Memref.isWhole_whole _)
          (Memref.whole main_v22_scv) (Memref.isWhole_whole _) (Memref.whole cc1_scratch0) (Memref.isWhole_whole _)
          (Memref.whole cc1_scratch1) (Memref.isWhole_whole _) cc1_scratch2 cc1_scoped0 cc1_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P cd) v₀ 0 := by
  intro d c i O W hO _ _
  simp only [show (P cd).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (cd.tb d) (cd.ix d) hF (cd.inRange d)
    (shareOf (tileNo (Fin.cast nCore_zero c) (Fin.cast nSub_zero i))) (cd.o0 d) O W hO).trans (wp_mono frame _ _ fun _ => obl_post)

/-! ## The parts and shares, cut and joined -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P cd) 0 := by
  intro d c
  show (bigSep Finset.univ fun i : Fin 16 => goAt cd d (Fin.cast nCore_zero c) i) ⊢ |={Set.univ}=> iprop(
      (bigSep Finset.univ fun i : Fin ((K (F := F)).nSub 0) => goAt cd d (Fin.cast nCore_zero c) (Fin.cast nSub_zero i))
      ∗ ((bigSep Finset.univ fun i : Fin ((K (F := F)).nSub 0) => tdAt cd d (Fin.cast nCore_zero c) (Fin.cast nSub_zero i))
          -∗ bigSep Finset.univ fun i : Fin 16 => tdAt cd d (Fin.cast nCore_zero c) i))
  rw [bigSep_tasks (F := F) (fun i => goAt cd d (Fin.cast nCore_zero c) i), bigSep_tasks (F := F) (fun i => tdAt cd d (Fin.cast nCore_zero c) i)]
  iintro H; imodintro
  isplitl [H]; · iexact H
  iintro H; iexact H

theorem oSet_disjoint : ∀ i ∈ (Finset.univ : Finset (Fin 32)), ∀ j ∈ (Finset.univ : Finset (Fin 32)), i ≠ j → Disjoint (oSet i) (oSet j) := by
  intro i _ j _ h
  refine Finset.disjoint_left.mpr fun x hi hj => h (Fin.ext ?_)
  exact (Finset.mem_filter.mp hi).2.symm.trans (Finset.mem_filter.mp hj).2
theorem oSet_cover : (Finset.univ : Finset (Fin 32)).biUnion oSet = Finset.univ := by
  refine Finset.eq_univ_iff_forall.mpr fun x => Finset.mem_biUnion.mpr ?_
  have hx : (x 0).val < 65536 := (x 0).isLt
  exact ⟨⟨(x 0).val / 2048, by omega⟩, Finset.mem_univ _, Finset.mem_filter.mpr ⟨Finset.mem_univ _, rfl⟩⟩

/-- The whole of the call's arrays is its tiles' parts. -/
theorem whole_tiles (d : Dev nD) (tb : S100352x2x128.Idx → Elt F .f32) (ix : S65536.Idx → BitVec 32) (f : S65536x2x128.Idx → Elt F .f32) :
    (iprop((iLoc d ↦{fullShare} (ix : Buf (Elt F) (iLoc d))) ∗ (tLoc d ↦{fullShare} (tb : Buf (Elt F) (tLoc d)))
        ∗ oLoc d ↦{fullShare} (f : Buf (Elt F) (oLoc d))) : sProp 𝕄)
      = bigSep Finset.univ fun c : Fin 2 => bigSep Finset.univ fun i : Fin 16 => tileIn d (tileNo c i) (shareOf (tileNo c i)) tb ix f := by
  have ho : (oLoc d ↦{fullShare} (f : Buf (Elt F) (oLoc d)) : sProp 𝕄)
      = bigSep Finset.univ fun w : Fin 32 => oLoc d ↦[oSet w]{fullShare} (f : Buf (Elt F) (oLoc d)) := by
    rw [← pointsTo_biUnion Finset.univ (ℓ := oLoc d) oSet oSet_disjoint, oSet_cover]; try rfl
  have hi : (iLoc d ↦{fullShare} (ix : Buf (Elt F) (iLoc d)) : sProp 𝕄)
      = bigSep Finset.univ fun w : Fin 32 => iLoc d ↦{shareOf w} (ix : Buf (Elt F) (iLoc d)) :=
    ShareLeaves.pointsTo_leaves Finset.univ _ 5 fullShare
  have ht : (tLoc d ↦{fullShare} (tb : Buf (Elt F) (tLoc d)) : sProp 𝕄)
      = bigSep Finset.univ fun w : Fin 32 => tLoc d ↦{shareOf w} (tb : Buf (Elt F) (tLoc d)) :=
    ShareLeaves.pointsTo_leaves Finset.univ _ 5 fullShare
  rw [ho, hi, ht]
  have h2 : (bigSep Finset.univ fun w : Fin 32 => tileIn d w (shareOf w) tb ix f)
      = iprop((bigSep Finset.univ fun w : Fin 32 => iLoc d ↦{shareOf w} (ix : Buf (Elt F) (iLoc d)))
        ∗ (bigSep Finset.univ fun w : Fin 32 => tLoc d ↦{shareOf w} (tb : Buf (Elt F) (tLoc d)))
        ∗ bigSep Finset.univ fun w : Fin 32 => oLoc d ↦[oSet w]{fullShare} (f : Buf (Elt F) (oLoc d))) := by
    rw [bigSep_sep', bigSep_sep']
  refine h2.symm.trans ?_
  rw [bigSep_univ_equiv tiles (fun w : Fin 32 => tileIn d w (shareOf w) tb ix f), bigSep_univ_prod]
  rfl

theorem st0_eq (d : Dev nD) : (bigSep Finset.univ fun c : Fin ((K (F := F)).nCore 0) => (P cd).st 0 d c)
    = iprop((iLoc d ↦{fullShare} (cd.ix d : Buf (Elt F) (iLoc d))) ∗ (tLoc d ↦{fullShare} (cd.tb d : Buf (Elt F) (tLoc d)))
        ∗ oLoc d ↦{fullShare} (cd.o0 d : Buf (Elt F) (oLoc d))) := by
  rw [whole_tiles]
  exact bigSep_cores (F := F) (fun c => bigSep Finset.univ fun i : Fin 16 => goAt cd d c i)
theorem dn0_eq (d : Dev nD) : (bigSep Finset.univ fun c : Fin ((K (F := F)).nCore 0) => (P cd).dn 0 d c)
    = iprop((iLoc d ↦{fullShare} (cd.ix d : Buf (Elt F) (iLoc d))) ∗ (tLoc d ↦{fullShare} (cd.tb d : Buf (Elt F) (tLoc d)))
        ∗ oLoc d ↦{fullShare} (gat (cd.tb d) (cd.ix d) : Buf (Elt F) (oLoc d))) := by
  rw [whole_tiles]
  exact bigSep_cores (F := F) (fun c => bigSep Finset.univ fun i : Fin 16 => tdAt cd d c i)

end Cert.Proof.Pool

end
-- ==== Proof.Region.lean ====
/-
  The TensorCore's own call: the score kernel over its (4, 16) grid, run while the core still owes the SparseCores
  their start signals. Its arrays are entered at any valuation `W` of the core's buffers; the inputs stay, and the
  output array ends at what the grid's 64 blocks wrote. The core's recorded waits stay at the index a kernel's own
  waits use, so the SparseCore call that follows may still wait.
-/
module

public import proofs.«01_k».proof.Proof.Common
public import Idealize.ShloMosaic.Lib.Pipeline.FrameBody
public import Idealize.ShloMosaic.Lib.Pipeline.Value
public import Idealize.ShloMosaic.Lib.Pipeline.RegionArraysS
public import Idealize.ShloMosaic.Lib.Claim
public import Idealize.ShloMosaic.Lib.Ring
public import Idealize.ShloMosaic.Lib.WordCmp

@[expose] public section

set_option maxRecDepth 16384

noncomputable section

namespace Cert.Proof.Pool

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation ucRefs arrRef arrRefs afterRegion)

variable {F : FTy → Type} [FloatOps F]

local notation "𝕄" => MT nD τ sig (HIx 1) (Elt F) ℕ UU ℕ

/-- The one admission of the pipeline, which prefetches no table. -/
abbrev adm : (p : Fin 1) → (pcfgs (F := F) p).Adm := fun p => (cfgs p).toPCfg_adm

/-- What a core's buffers hold when its call is entered, core by core. -/
abbrev Entry (F : FTy → Type) [FloatOps F] : Type := Dev nD → Valuation τ sig (Elt F)

/-! ## Blocks and the block's value -/

/-- The block of window `w` at grid point `t`, read off the array as entered. -/
def blockIn (W : Entry F) (c : Dev nD) (w : Fin cfg0.W) (t : Fin cfg0.N) :
    ((cfg0.win w).xblock (cfg0.grid.coords t)).Idx → Elt F (cfg0.win w).elt :=
  ((cfg0.win w).blk t).view.read (Elt F) (W c (Proc.devRef .tc (arrRef spec0 w)))

abbrev wholeQ : Rect S256x256 := Rect.unit (s := S256x256) ![0, 0] S256x256.size inb_S256x256_S256x256_0_0
abbrev wholeE : Rect S6272x256 := Rect.unit (s := S6272x256) ![0, 0] S6272x256.size inb_S6272x256_S6272x256_0_0
abbrev wholeS : Rect S256x6272 := Rect.unit (s := S256x6272) ![0, 0] S256x6272.size inb_S256x6272_S256x6272_0_0

/-- What the body leaves in the output's staging buffer: the product of the two blocks. -/
def scoreBlock (x0 : Vec F S256x256 .f32) (x1 : Vec F S6272x256 .f32) : Vec F S256x6272 .f32 :=
  View.canon [⟨wholeS, k0_pay1 (View.ld x0 wholeQ) (View.ld x1 wholeE)⟩]

theorem scoreBlock_covers (p0 : Vec F S256x6272 .f32) (y : S256x6272.Idx) :
    ∃ pc ∈ ([⟨wholeS, p0⟩] : List (View.Piece (Elt F) S256x6272 .f32)), y ∈ pc.1.set :=
  View.cover_of_tiled [⟨wholeS, p0⟩] S256x6272.size (by rfl) y

set_option maxHeartbeats 1000000 in
/-- The body on three whole staging buffers: the inputs' stay, the output's ends at `scoreBlock`. -/
theorem score_body (c : Dev nD) (E : Set ℕ) (i : grid0.Coords) (a2 : Memref sig .tc .vmem S256x256 .f32) (h2 : a2.IsWhole)
    (a3 : Memref sig .tc .vmem S6272x256 .f32) (h3 : a3.IsWhole) (a4 : Memref sig .tc .vmem S256x6272 .f32) (h4 : a4.IsWhole)
    (x0 : Vec F S256x256 .f32) (x1 : Vec F S6272x256 .f32) (Q : PUnit → sProp 𝕄) :
    iprop(owns (c : Thread nD τ) a2 fullShare x0 ∗ owns (c : Thread nD τ) a3 fullShare x1 ∗ (∃ d, owns (c : Thread nD τ) a4 fullShare d)
        ∗ (iprop(owns (c : Thread nD τ) a2 fullShare x0 ∗ owns (c : Thread nD τ) a3 fullShare x1
            ∗ owns (c : Thread nD τ) a4 fullShare (scoreBlock x0 x1)) -∗ Q ⟨⟩))
      ⊢ wp frame (wpE (defs₀ (F := F)) Variants.none c none) E (cc0__score_kernel i a2 h2 a3 h3 a4 h4) Q := by
  simp only [cc0__score_kernel_eq_skeleton]
  unfold cc0__score_kernel_skel owns
  iintro ⟨⟨%g0, %hg0, H0⟩, ⟨%g1, %hg1, H1⟩, ⟨%d2, %g2, -, H2⟩, Hk⟩
  subst hg0 hg1
  sl_exec
  sl_step
  iapply Hk
  isplitl [H0]
  · iexists g0; isplitr
    · ipureintro; rfl
    iexact H0
  isplitl [H1]
  · iexists g1; isplitr
    · ipureintro; rfl
    iexact H1
  iexists _; isplitr
  swap; · iexact H2
  ipureintro
  exact View.read_writes_eq_canon _ _ _ (scoreBlock_covers _)

/-! ## The proof data -/

/-- The pipeline's data on core `c`: arrays as entered, inputs' buffers at their blocks after each point, the output's
    at `scoreBlock`; the core owes its start signals throughout and has recorded only waits of a kernel's own index. -/
def dats (W : Entry F) (_ : Fin 1) (c : Dev nD) : Dat τ (Elt F) (HIx 1) ℕ UU ℕ cfg0 c where
  A w := W c (Proc.devRef .tc (arrRef spec0 w))
  after w t := match w with
    | ⟨0, _⟩ => blockIn W c 0 t
    | ⟨1, _⟩ => blockIn W c 1 t
    | ⟨2, _⟩ => scoreBlock (blockIn W c 0 t) (blockIn W c 1 t)
  Φ _ := Pipeline.scopedRest spec0 c
  q _ := fullShare
  owed _ := (K (F := F)).Otc c 0
  recorded _ := {p | p.2 = none}

theorem dats_A (W : Entry F) (c : Dev nD) (w : Fin cfg0.W) : (dats W 0 c).A w = W c (Proc.devRef .tc (arrRef spec0 w)) := by
  dsimp only [dats]
theorem dats_after0 (W : Entry F) (c : Dev nD) (t : Fin cfg0.N) : (dats W 0 c).after 0 t = blockIn W c 0 t := by dsimp only [dats]
theorem dats_after1 (W : Entry F) (c : Dev nD) (t : Fin cfg0.N) : (dats W 0 c).after 1 t = blockIn W c 1 t := by dsimp only [dats]
theorem dats_after2 (W : Entry F) (c : Dev nD) (t : Fin cfg0.N) :
    (dats W 0 c).after 2 t = scoreBlock (blockIn W c 0 t) (blockIn W c 1 t) := by dsimp only [dats]

/-- An input's buffer holds its block at every point, fetched there or kept from the point before. -/
theorem dats_before0 (W : Entry F) (c : Dev nD) (t : Fin cfg0.N) (d) : (dats W 0 c).before 0 t d = blockIn W c 0 t :=
  ((dats W 0 c).before_in_eq_fetched 0 rfl (fun _ => rfl) (fun _ _ _ => rfl)
      (fun t => by rw [dats_after0]; unfold Dat.blockOf blockIn; rw [dats_A]; try rfl) t d).trans
    (by unfold Dat.fetched Dat.blockOf blockIn; rw [dats_A]; try rfl)
theorem dats_before1 (W : Entry F) (c : Dev nD) (t : Fin cfg0.N) (d) : (dats W 0 c).before 1 t d = blockIn W c 1 t :=
  ((dats W 0 c).before_in_eq_fetched 1 rfl (fun _ => rfl) (fun _ _ _ => rfl)
      (fun t => by rw [dats_after1]; unfold Dat.blockOf blockIn; rw [dats_A]; try rfl) t d).trans
    (by unfold Dat.fetched Dat.blockOf blockIn; rw [dats_A]; try rfl)

/-- The state the body is called with at `t`, -/
def ptPre (W : Entry F) (c : Dev nD) (t : Fin cfg0.N) : sProp 𝕄 :=
  iprop((dats W 0 c).Φ t.castSucc ∗ (dats W 0 c).owesAt none t.castSucc
    ∗ (∃ d, owns (c : Thread nD τ) (st0_0 t) fullShare ((dats W 0 c).before 0 t d))
    ∗ (∃ d, owns (c : Thread nD τ) (st0_1 t) fullShare ((dats W 0 c).before 1 t d))
    ∗ (∃ d, owns (c : Thread nD τ) (st0_2 t) fullShare ((dats W 0 c).before 2 t d)))

/-- and the state it returns. -/
def ptPost (W : Entry F) (c : Dev nD) (t : Fin cfg0.N) : sProp 𝕄 :=
  iprop((dats W 0 c).Φ t.succ ∗ (dats W 0 c).owesAt none t.succ
    ∗ owns (c : Thread nD τ) (st0_0 t) fullShare ((dats W 0 c).after 0 t)
    ∗ owns (c : Thread nD τ) (st0_1 t) fullShare ((dats W 0 c).after 1 t)
    ∗ owns (c : Thread nD τ) (st0_2 t) fullShare ((dats W 0 c).after 2 t))

theorem pt_sound (W : Entry F) (c : Dev nD) (t : Fin cfg0.N) :
    ptPre W c t ⊢ wp frame (wpE (defs₀ (F := F)) Variants.none c none) Set.univ (bodyAt0 t) (fun _ => ptPost W c t) := by
  unfold ptPre ptPost bodyAt0
  simp only [dats_before0, dats_before1]
  rw [show (dats W 0 c).Φ t.succ = (dats W 0 c).Φ t.castSucc from rfl,
    show (dats W 0 c).owesAt none t.succ = (dats W 0 c).owesAt none t.castSucc from rfl,
    dats_after0, dats_after1, dats_after2]
  iintro ⟨HΦ, Ho, ⟨%d0, H0⟩, ⟨%d1, H1⟩, ⟨%d2, H2⟩⟩
  iapply (score_body c Set.univ (grid0.coords t) _ _ _ _ _ _ (blockIn W c 0 t) (blockIn W c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem row_at (t : Fin cfg0.N) : defs₀ (F := F) .tc cfg0.body (cfg0.bodyArgs t (cfg0.slots t)) = bodyAt0 t := by
  rfl

theorem pt_obl (W : Entry F) (c : Dev nD) : BodyObligation (dats W 0 c) (defs₀ (F := F)) Variants.none none Set.univ := fun t => by
  rw [bigSep_W0, bigSep_W0, row_at]
  exact triple_restated (pt_sound W c t) rfl .rfl fun _ => .rfl

/-! ## The call's region -/

theorem Otc_none (c : Dev nD) (g : GSem nD τ sig) : (K (F := F)).Otc (N := 1) c 0 g none = 0 := by
  by_contra h
  have := SparseCore.Cfg.lev_of_Otc_pos (K := K (F := F)) (d := c) (n := 0) (g := g) (ι := none) (Nat.pos_of_ne_zero h)
  rw [SparseCore.Cfg.lev_none] at this
  omega

/-- What the core owes while its own call runs: the start signals, every recorded wait at a kernel's own index. -/
def duesAt (c : Dev nD) : sProp 𝕄 :=
  iprop(∃ R, ⌜∀ p ∈ R, p.2 = none⌝ ∗ owes (c : Thread nD τ) ((K (F := F)).Otc c 0) R)

theorem share_at (W : Entry F) (c : Dev nD) (w : Fin cfg0.W) : (dats W 0 c).share w = fullShare :=
  (dats W 0 c).share_full (fun _ => rfl) w

theorem arr_entry (W : Entry F) (c : Dev nD) (w : Fin cfg0.W) :
    (dats W 0 c).arrAt w 0 = W c (Proc.devRef .tc (arrRef spec0 w)) := dats_A W c w

theorem arrs_sub : arrRefs (τ := τ) spec0 ⊆ ucRefs τ sig := Pipeline.arrRefs_sub_ucRefs spec0 winFacts0.arr_unscoped

/-- The buffers after the call: the output window's array at what the grid wrote, everything else as entered. -/
abbrev afterScore (W : Entry F) (c : Dev nD) : Valuation τ sig (Elt F) := afterRegion (dats W 0 c) (W c)

/-- The pipeline's arrays at contents `G` are the three buffers held at a valuation with those contents. -/
theorem arrs_held (c : Dev nD) (V : Valuation τ sig (Elt F)) (W : Entry F)
    (G : (w : Fin cfg0.W) → Buf (Elt F) ((cfg0.win w).arr.view.loc (c.tc : Thread nD τ)))
    (hG : ∀ w, G w = V (Proc.devRef .tc (arrRef spec0 w))) :
    ((dats W 0 c).arrays G : sProp 𝕄) = StableHlo.held (c.tc : Thread nD τ) (arrRefs (τ := τ) spec0) V :=
  Pipeline.arrays_held (pcfgs (F := F)) adm (dats W) 0 launch0.toP c (share_at W c) G V hG

set_option maxHeartbeats 2000000 in
/-- The unscoped buffers are the three arrays and the rest. -/
theorem held_split (c : Dev nD) (V : Valuation τ sig (Elt F)) (W : Entry F)
    (G : (w : Fin cfg0.W) → Buf (Elt F) ((cfg0.win w).arr.view.loc (c.tc : Thread nD τ)))
    (hG : ∀ w, G w = V (Proc.devRef .tc (arrRef spec0 w))) :
    (StableHlo.held (c.tc : Thread nD τ) (ucRefs τ sig) V : sProp 𝕄)
      = iprop((dats W 0 c).arrays G ∗ StableHlo.held (c.tc : Thread nD τ) (ucRefs τ sig \ arrRefs (τ := τ) spec0) V) := by
  rw [StableHlo.held_sub_split (c.tc : Thread nD τ) arrs_sub V]
  rw [← arrs_held c V W G hG]

set_option maxHeartbeats 4000000 in
/-- The call's region: entered from every unscoped buffer at `W` and the dues, left with the arrays moved on. -/
def region (W : Entry F) : Pipeline.RegionSeg (pcfgs (F := F)) adm (dats W) (none : HIx 1) (defs₀ (F := F)) 𝒱₀
    (K (F := F)).L (K (F := F)).lev (0 : Fin 1) where
  win := winFacts0.to₀
  block_pos := block_pos0
  stage_whole := stage_whole0
  K := PEmpty
  osem k := k.elim
  ho := Pipeline.OwnSemFacts.none _
  hbody c := (pt_obl W c).loose
  hwaits c := Pipeline.cellsWaits_intro _ _ _ _ c fun w s t => (K (F := F)).mayWait_none _ (Otc_none c)
  pre c := iprop(StableHlo.held (c.tc : Thread nD τ) (ucRefs τ sig) (W c) ∗ duesAt (F := F) c)
  post c := iprop(StableHlo.held (c.tc : Thread nD τ) (ucRefs τ sig) (afterScore W c) ∗ duesAt (F := F) c)
  X _ := iprop(emp)
  Y _ := iprop(emp)
  Z c := StableHlo.held (c.tc : Thread nD τ) (ucRefs τ sig \ arrRefs (τ := τ) spec0) (W c)
  hentry c := by
    rw [Pipeline.ownSems0_none, Pipeline.prefHeld_of_none _ rfl, held_split c (W c) W ((dats W 0 c).arrAt · 0) (arr_entry W c)]
    iintro ⟨⟨⟨Ha, Hr⟩, HO⟩, -, -⟩
    imodintro
    isplitl [Ha]; · iexact Ha
    isplitr; · iempintro
    isplitl [HO]
    · unfold duesAt
      unfold Dat.owesAt Pipeline.owesWithin Dat.bound
      icases HO with ⟨%R, %hR, HO⟩
      iexists R
      isplitr
      · ipureintro; exact fun p hp => Or.inl (hR p hp)
      iexact HO
    isplitr; · iempintro
    iexact Hr
  hin c := by
    show _ ⊢ (Pipeline.scopedRest spec0 c : sProp 𝕄)
    iintro ⟨-, -, Hr⟩
    iexact Hr
  hout c := by
    show (Pipeline.scopedRest spec0 c : sProp 𝕄) ⊢ _
    rw [Pipeline.ownSems0_none]
    iintro Hr
    isplitr; · iempintro
    isplitr; · iempintro
    iexact Hr
  hexit c := by
    rw [held_split c (afterScore W c) W ((dats W 0 c).arrAt · cfg0.N)
        (fun w => (Pipeline.afterRegion_arr (dats W 0 c) (W c) winFacts0.arr_inj w).symm),
      StableHlo.held_congr (c.tc : Thread nD τ) (Pipeline.afterRegion_off (dats W 0 c) (W c) (ucRefs τ sig))]
    iintro ⟨Ha, HO, -, Hr⟩
    imodintro
    isplitl [Ha Hr]
    · isplitl [Ha]; · iexact Ha
      iexact Hr
    unfold duesAt Dat.owesAt Pipeline.owesWithin Dat.bound
    icases HO with ⟨%R, %hR, HO⟩
    iexists R
    isplitr
    · ipureintro
      intro p hp
      rcases hR hp with h | ⟨w, s, rfl⟩
      · exact h
      · rfl
    iexact HO

/-- The pipeline's ghost state on a core: its cells' rounds and the tokens that start them. -/
def scoreGhost (c : Dev nD) : sProp 𝕄 :=
  iprop(Pipeline.cellsGhost (Pipeline.pin (pcfgs (F := F)) adm) EP 0 c ∗ Pipeline.toksInit (Pipeline.pin (pcfgs (F := F)) adm) EP 0 c)

theorem cells_inj : Function.Injective (Pipeline.cellOf (nD := nD) (τ := τ) (Pipeline.pin (pcfgs (F := F)) adm)) := cellOf_inj

/-- The same call under the pipeline's own table of bodies. -/
theorem wp_score_in [∀ e, Nonempty (Elt F e)] (W : Entry F) (c : Dev nD) (Q : PUnit → sProp 𝕄) :
    iprop((iprop(boundary (T c) ∗ StableHlo.held (c.tc : Thread nD τ) (ucRefs τ sig) (afterScore W c) ∗ duesAt (F := F) c)
          -∗ wp frame (wpE (D (F := F)) 𝒱 (T c) none) Set.univ (pure ⟨⟩) Q)
        ∗ boundary (T c) ∗ (StableHlo.held (c.tc : Thread nD τ) (ucRefs τ sig) (W c) ∗ duesAt (F := F) c)
        ∗ levAts (K (F := F)).L (K (F := F)).lev ∗ scoreGhost (F := F) c)
      ⊢ wp frame (wpE (D (F := F)) 𝒱 (T c) none) Set.univ (.op (.customCall (Pipeline.entry 0) ()) fun x => pure x) Q :=
  Pipeline.RegionSeg.wp (pcfgs (F := F)) adm (dats W) (none : HIx 1) cells_inj (EP (F := F)) (defs₀ (F := F)) 𝒱₀
    (K (F := F)).L (K (F := F)).lev (region W) c none (fun _ h => nomatch h) (fun x => pure x) Q

theorem score_lifted : SparseCore.liftProg (Q := 1) (.op (.customCall (Pipeline.entry 0) ()) fun x => pure x)
    = (Prog.lift (.customCall (SparseCore.inner (Pipeline.entry 0)) ()) : Prog (TpuEff nD τ sig (Elt F) (SparseCore.Sig (ΛP (F := F)) 1) .tc) PUnit) := rfl

/-- The TensorCore's call, from every unscoped buffer at `W` to every unscoped buffer at `afterScore W`. -/
theorem wp_score [∀ e, Nonempty (Elt F e)] (W : Entry F) (c : Dev nD) (Q : PUnit → sProp 𝕄) :
    iprop((iprop(boundary (T c) ∗ StableHlo.held (c.tc : Thread nD τ) (ucRefs τ sig) (afterScore W c) ∗ duesAt (F := F) c) -∗ Q ⟨⟩)
        ∗ boundary (T c) ∗ (StableHlo.held (c.tc : Thread nD τ) (ucRefs τ sig) (W c) ∗ duesAt (F := F) c)
        ∗ levAts (K (F := F)).L (K (F := F)).lev ∗ scoreGhost (F := F) c)
      ⊢ wp frame (wpE ((K (F := F)).defs D) 𝒱 (T c) none) Set.univ
          (Prog.lift (.customCall (SparseCore.inner (Pipeline.entry 0)) ())) Q := by
  rw [← score_lifted]
  refine BIBase.Entails.trans ?_ ((K (F := F)).wp_liftProg D 𝒱 (T c) Set.univ none _ Q)
  refine BIBase.Entails.trans ?_ (wp_score_in W c Q)
  iintro ⟨Hk, Hp⟩
  isplitl [Hk]
  · iintro H
    sl_step
    iapply Hk
    iexact H
  iexact Hp

end Cert.Proof.Pool

end
-- ==== Proof.Host.lean ====
/-
  The host's straight lines of operations around the two calls, as lists, and what they compute: the list of table
  rows the SparseCores fetch, the padded table in the fetch's shape, and the result out of the fetched rows.
-/
module

public import proofs.«01_k».proof.Proof.Common

@[expose] public section

set_option maxRecDepth 16384

noncomputable section

namespace Cert.Proof.Pool

open Cert.KernelIdeal Cert.KernelIdeal.Gen

open Idealize.ShloMosaic Idealize.ShloMosaic.TcCoe Idealize.ShloMosaic.StableHlo
open Idealize.SL.Sem

variable {F : FTy → Type} [FloatOps F]

/-! ## The operations -/

/-- Host operations: flatten the query and pad the table with rows of zeros. -/
abbrev opsIn : List (HloOp τ sig (Elt F)) :=
  [ reshape main_arg0 main_v0 (rfl : (.f32 : EltTy) = .f32) shapeCasts_S4x256x256_S1024x256,
    nullary main_c (constantI S_ 32 0#32),
    unary main_c main_call0_v0 (sitofp .f32 : (⟨S_, .i32⟩ : BufTy).Contents (Elt F) → (⟨S_, .f32⟩ : BufTy).Contents (Elt F)),
    binary main_arg1 main_call0_v0 main_v1 ((fun x v => pad S100352x256 ![0, 0] ![352, 0] ![0, 0] x v pads_S100000x256_S100352x256_03520_000 h_S_) : (⟨S100000x256, .f32⟩ : BufTy).Contents (Elt F) → (⟨S_, .f32⟩ : BufTy).Contents (Elt F) → (⟨S100352x256, .f32⟩ : BufTy).Contents (Elt F)) ]

/-- Host operations: scores of the padding columns become −∞. -/
abbrev opsMask : List (HloOp τ sig (Elt F)) :=
  [ nullary main_v3 (iotaInDim S100352 32 0),
    nullary main_c_0 (constantI S_ 32 100000#32),
    unary main_c_0 main_v4 (broadcastInDim S100352 ![] bcast_S_S100352 : (⟨S_, .i32⟩ : BufTy).Contents (Elt F) → (⟨S100352, .i32⟩ : BufTy).Contents (Elt F)),
    binary main_v3 main_v4 main_v5 (cmpi .slt : (⟨S100352, .i32⟩ : BufTy).Contents (Elt F) → (⟨S100352, .i32⟩ : BufTy).Contents (Elt F) → (⟨S100352, .i1⟩ : BufTy).Contents (Elt F)),
    unary main_v5 main_v6 (broadcastInDim S1x100352 ![1] bcast_S100352_S1x100352_1 : (⟨S100352, .i1⟩ : BufTy).Contents (Elt F) → (⟨S1x100352, .i1⟩ : BufTy).Contents (Elt F)),
    nullary main_cst (constant S_ .f32 0xFF800000#32),
    unary main_v6 main_call1_v0 (broadcastInDim S1024x100352 ![0, 1] bcast_S1x100352_S1024x100352_0_1 : (⟨S1x100352, .i1⟩ : BufTy).Contents (Elt F) → (⟨S1024x100352, .i1⟩ : BufTy).Contents (Elt F)),
    unary main_cst main_call1_v1 (broadcastInDim S1024x100352 ![] bcast_S_S1024x100352 : (⟨S_, .f32⟩ : BufTy).Contents (Elt F) → (⟨S1024x100352, .f32⟩ : BufTy).Contents (Elt F)),
    ternary main_call1_v0 main_v2 main_call1_v1 main_v7 (select : (⟨S1024x100352, .i1⟩ : BufTy).Contents (Elt F) → (⟨S1024x100352, .f32⟩ : BufTy).Contents (Elt F) → (⟨S1024x100352, .f32⟩ : BufTy).Contents (Elt F) → (⟨S1024x100352, .f32⟩ : BufTy).Contents (Elt F)) ]

/-- Host operations: the 64 best columns of every row. -/
abbrev opsTop : List (HloOp τ sig (Elt F)) :=
  [ unary main_v7 main_values ((fun x => (Host.topK S1024x64 1 (FloatOps.cmpfTotal .gt) x sliceFits_S1024x100352_S1024x64).1) : (⟨S1024x100352, .f32⟩ : BufTy).Contents (Elt F) → (⟨S1024x64, .f32⟩ : BufTy).Contents (Elt F)),
    unary main_v7 main_indices ((fun x => (Host.topK S1024x64 1 (FloatOps.cmpfTotal .gt) x sliceFits_S1024x100352_S1024x64).2) : (⟨S1024x100352, .f32⟩ : BufTy).Contents (Elt F) → (⟨S1024x64, .i32⟩ : BufTy).Contents (Elt F)) ]

/-- Host operations: lane numbers, row limits and flat positions. -/
abbrev opsLanes : List (HloOp τ sig (Elt F)) :=
  [ nullary main_v8 (iotaInDim S64 32 0),
    unary main_v8 main_v9 (broadcastInDim S1x64 ![1] bcast_S64_S1x64_1 : (⟨S64, .i32⟩ : BufTy).Contents (Elt F) → (⟨S1x64, .i32⟩ : BufTy).Contents (Elt F)),
    reshape main_arg2 main_v10 (rfl : (.i32 : EltTy) = .i32) shapeCasts_S4x256_S1024x1,
    nullary main_v11 (iotaInDim S65536 32 0),
    reshape main_v11 main_v12 (rfl : (.i32 : EltTy) = .i32) shapeCasts_S65536_S1024x64,
    nullary main_c_1 (constantI S_ 32 352#32) ]

/-- Host operations: flat position modulo 352. -/
abbrev opsRem : List (HloOp τ sig (Elt F)) :=
  [ unary main_c_1 main_call2_v0 (id : (⟨S_, .i32⟩ : BufTy).Contents (Elt F) → (⟨S_, .i32⟩ : BufTy).Contents (Elt F)),
    nullary main_call2_c (constantI S_ 32 0#32),
    binary main_call2_v0 main_call2_c main_call2_v1 (cmpi .eq : (⟨S_, .i32⟩ : BufTy).Contents (Elt F) → (⟨S_, .i32⟩ : BufTy).Contents (Elt F) → (⟨S_, .i1⟩ : BufTy).Contents (Elt F)),
    nullary main_call2_c_0 (constantI S_ 32 1#32),
    ternary main_call2_v1 main_call2_c_0 main_call2_v0 main_call2_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_call2_v2 main_call2_v3 (broadcastInDim S1024x64 ![] bcast_S_S1024x64 : (⟨S_, .i32⟩ : BufTy).Contents (Elt F) → (⟨S1024x64, .i32⟩ : BufTy).Contents (Elt F)),
    binary main_v12 main_call2_v3 main_call2_v4 (Host.remsi : (⟨S1024x64, .i32⟩ : BufTy).Contents (Elt F) → (⟨S1024x64, .i32⟩ : BufTy).Contents (Elt F) → (⟨S1024x64, .i32⟩ : BufTy).Contents (Elt F)),
    nullary main_call2_c_1 (constantI S_ 32 0#32),
    unary main_call2_c_1 main_call2_v5 (broadcastInDim S1024x64 ![] bcast_S_S1024x64 : (⟨S_, .i32⟩ : BufTy).Contents (Elt F) → (⟨S1024x64, .i32⟩ : BufTy).Contents (Elt F)),
    binary main_call2_v4 main_call2_v5 main_call2_v6 (cmpi .ne : (⟨S1024x64, .i32⟩ : BufTy).Contents (Elt F) → (⟨S1024x64, .i32⟩ : BufTy).Contents (Elt F) → (⟨S1024x64, .i1⟩ : BufTy).Contents (Elt F)),
    nullary main_call2_c_2 (constantI S_ 32 0#32),
    unary main_call2_c_2 main_call2_v7 (broadcastInDim S1024x64 ![] bcast_S_S1024x64 : (⟨S_, .i32⟩ : BufTy).Contents (Elt F) → (⟨S1024x64, .i32⟩ : BufTy).Contents (Elt F)),
    binary main_call2_v4 main_call2_v7 main_call2_v8 (cmpi .slt : (⟨S1024x64, .i32⟩ : BufTy).Contents (Elt F) → (⟨S1024x64, .i32⟩ : BufTy).Contents (Elt F) → (⟨S1024x64, .i1⟩ : BufTy).Contents (Elt F)),
    nullary main_call2_c_3 (constantI S_ 32 0#32),
    binary main_call2_v2 main_call2_c_3 main_call2_v9 (cmpi .slt : (⟨S_, .i32⟩ : BufTy).Contents (Elt F) → (⟨S_, .i32⟩ : BufTy).Contents (Elt F) → (⟨S_, .i1⟩ : BufTy).Contents (Elt F)),
    unary main_call2_v9 main_call2_v10 (broadcastInDim S1024x64 ![] bcast_S_S1024x64 : (⟨S_, .i1⟩ : BufTy).Contents (Elt F) → (⟨S1024x64, .i1⟩ : BufTy).Contents (Elt F)),
    binary main_call2_v8 main_call2_v10 main_call2_v11 (cmpi .ne : (⟨S1024x64, .i1⟩ : BufTy).Contents (Elt F) → (⟨S1024x64, .i1⟩ : BufTy).Contents (Elt F) → (⟨S1024x64, .i1⟩ : BufTy).Contents (Elt F)),
    binary main_call2_v11 main_call2_v6 main_call2_v12 (andi : (⟨S1024x64, .i1⟩ : BufTy).Contents (Elt F) → (⟨S1024x64, .i1⟩ : BufTy).Contents (Elt F) → (⟨S1024x64, .i1⟩ : BufTy).Contents (Elt F)),
    unary main_call2_v2 main_call2_v13 (broadcastInDim S1024x64 ![] bcast_S_S1024x64 : (⟨S_, .i32⟩ : BufTy).Contents (Elt F) → (⟨S1024x64, .i32⟩ : BufTy).Contents (Elt F)),
    binary main_call2_v4 main_call2_v13 main_call2_v14 (addi : (⟨S1024x64, .i32⟩ : BufTy).Contents (Elt F) → (⟨S1024x64, .i32⟩ : BufTy).Contents (Elt F) → (⟨S1024x64, .i32⟩ : BufTy).Contents (Elt F)),
    ternary main_call2_v12 main_call2_v14 main_call2_v4 main_v13 (select : (⟨S1024x64, .i1⟩ : BufTy).Contents (Elt F) → (⟨S1024x64, .i32⟩ : BufTy).Contents (Elt F) → (⟨S1024x64, .i32⟩ : BufTy).Contents (Elt F) → (⟨S1024x64, .i32⟩ : BufTy).Contents (Elt F)) ]

/-- Host operations: the list of rows to fetch and the table as the fetch reads it. -/
abbrev opsList : List (HloOp τ sig (Elt F)) :=
  [ nullary main_c_2 (constantI S_ 32 100000#32),
    unary main_c_2 main_v14 (broadcastInDim S1024x64 ![] bcast_S_S1024x64 : (⟨S_, .i32⟩ : BufTy).Contents (Elt F) → (⟨S1024x64, .i32⟩ : BufTy).Contents (Elt F)),
    binary main_v14 main_v13 main_v15 (addi : (⟨S1024x64, .i32⟩ : BufTy).Contents (Elt F) → (⟨S1024x64, .i32⟩ : BufTy).Contents (Elt F) → (⟨S1024x64, .i32⟩ : BufTy).Contents (Elt F)),
    unary main_v9 main_v16 (broadcastInDim S1024x64 ![0, 1] bcast_S1x64_S1024x64_0_1 : (⟨S1x64, .i32⟩ : BufTy).Contents (Elt F) → (⟨S1024x64, .i32⟩ : BufTy).Contents (Elt F)),
    unary main_v10 main_v17 (broadcastInDim S1024x64 ![0, 1] bcast_S1024x1_S1024x64_0_1 : (⟨S1024x1, .i32⟩ : BufTy).Contents (Elt F) → (⟨S1024x64, .i32⟩ : BufTy).Contents (Elt F)),
    binary main_v16 main_v17 main_v18 (cmpi .slt : (⟨S1024x64, .i32⟩ : BufTy).Contents (Elt F) → (⟨S1024x64, .i32⟩ : BufTy).Contents (Elt F) → (⟨S1024x64, .i1⟩ : BufTy).Contents (Elt F)),
    ternary main_v18 main_indices main_v15 main_v19 (select : (⟨S1024x64, .i1⟩ : BufTy).Contents (Elt F) → (⟨S1024x64, .i32⟩ : BufTy).Contents (Elt F) → (⟨S1024x64, .i32⟩ : BufTy).Contents (Elt F) → (⟨S1024x64, .i32⟩ : BufTy).Contents (Elt F)),
    reshape main_v19 main_v20 (rfl : (.i32 : EltTy) = .i32) shapeCasts_S1024x64_S65536,
    reshape main_v1 main_v21 (rfl : (.f32 : EltTy) = .f32) shapeCasts_S100352x256_S100352x2x128 ]

/-- Host operations: the fetched rows in the result's shape. -/
abbrev opsOut : List (HloOp τ sig (Elt F)) :=
  [ reshape main_v22 main_v23 (rfl : (.f32 : EltTy) = .f32) shapeCasts_S65536x2x128_S4x256x64x256 ]

/-- Everything between the two calls. -/
abbrev opsMid : List (HloOp τ sig (Elt F)) := opsMask ++ (opsTop ++ (opsLanes ++ (opsRem ++ opsList)))

/-- @main: a line of operations, the TensorCore's call, a second line, the SparseCore call, a last operation. -/
theorem main_lines (d : Dev nD) : main (F := F) d
    = seqK opsIn (Prog.lift (.customCall (SparseCore.inner (Pipeline.entry 0)) ()) >>= fun _ =>
        seqK opsMid (sc.run d 0 >>= fun _ => seqK opsOut (pure ⟨⟩))) := rfl

/-! ## What the lines touch -/

theorem opsIn_within : (opsIn : List (HloOp τ sig (Elt F))).Forall fun op => op.bufs ⊆ tcRefs τ sig :=
  ⟨reshape_bufs_sub .., nullary_bufs_sub .., unary_bufs_sub .., binary_bufs_sub ..⟩
theorem opsIn_settled : ∀ op ∈ (opsIn : List (HloOp τ sig (Elt F))), op.fresh = ∅ := by
  intro _ h; (repeat (cases h with | head => rfl | tail _ h => ?_)); exact nomatch h
theorem opsMask_within : (opsMask : List (HloOp τ sig (Elt F))).Forall fun op => op.bufs ⊆ tcRefs τ sig :=
  ⟨nullary_bufs_sub .., nullary_bufs_sub .., unary_bufs_sub .., binary_bufs_sub .., unary_bufs_sub .., nullary_bufs_sub .., unary_bufs_sub .., unary_bufs_sub .., ternary_bufs_sub ..⟩
theorem opsMask_settled : ∀ op ∈ (opsMask : List (HloOp τ sig (Elt F))), op.fresh = ∅ := by
  intro _ h; (repeat (cases h with | head => rfl | tail _ h => ?_)); exact nomatch h
theorem opsTop_within : (opsTop : List (HloOp τ sig (Elt F))).Forall fun op => op.bufs ⊆ tcRefs τ sig :=
  ⟨unary_bufs_sub .., unary_bufs_sub ..⟩
theorem opsTop_settled : ∀ op ∈ (opsTop : List (HloOp τ sig (Elt F))), op.fresh = ∅ := by
  intro _ h; (repeat (cases h with | head => rfl | tail _ h => ?_)); exact nomatch h
theorem opsLanes_within : (opsLanes : List (HloOp τ sig (Elt F))).Forall fun op => op.bufs ⊆ tcRefs τ sig :=
  ⟨nullary_bufs_sub .., unary_bufs_sub .., reshape_bufs_sub .., nullary_bufs_sub .., reshape_bufs_sub .., nullary_bufs_sub ..⟩
theorem opsLanes_settled : ∀ op ∈ (opsLanes : List (HloOp τ sig (Elt F))), op.fresh = ∅ := by
  intro _ h; (repeat (cases h with | head => rfl | tail _ h => ?_)); exact nomatch h
theorem opsRem_within : (opsRem : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem opsRem_settled : ∀ op ∈ (opsRem : List (HloOp τ sig (Elt F))), op.fresh = ∅ := by
  intro _ h; (repeat (cases h with | head => rfl | tail _ h => ?_)); exact nomatch h
theorem opsList_within : (opsList : List (HloOp τ sig (Elt F))).Forall fun op => op.bufs ⊆ tcRefs τ sig :=
  ⟨nullary_bufs_sub .., unary_bufs_sub .., binary_bufs_sub .., unary_bufs_sub .., unary_bufs_sub .., binary_bufs_sub .., ternary_bufs_sub .., reshape_bufs_sub .., reshape_bufs_sub ..⟩
theorem opsList_settled : ∀ op ∈ (opsList : List (HloOp τ sig (Elt F))), op.fresh = ∅ := by
  intro _ h; (repeat (cases h with | head => rfl | tail _ h => ?_)); exact nomatch h
theorem opsOut_within : (opsOut : List (HloOp τ sig (Elt F))).Forall fun op => op.bufs ⊆ tcRefs τ sig := reshape_bufs_sub ..
theorem opsOut_settled : ∀ op ∈ (opsOut : List (HloOp τ sig (Elt F))), op.fresh = ∅ := by
  intro _ h; (repeat (cases h with | head => rfl | tail _ h => ?_)); exact nomatch h

theorem opsMid_within : (opsMid : List (HloOp τ sig (Elt F))).Forall fun op => op.bufs ⊆ tcRefs τ sig := by
  simp only [opsMid, List.forall_append]
  exact ⟨opsMask_within, opsTop_within, opsLanes_within, opsRem_within, opsList_within⟩
theorem opsMid_settled : ∀ op ∈ (opsMid : List (HloOp τ sig (Elt F))), op.fresh = ∅ := by
  intro op h
  rcases List.mem_append.mp h with h | h
  · exact opsMask_settled op h
  rcases List.mem_append.mp h with h | h
  · exact opsTop_settled op h
  rcases List.mem_append.mp h with h | h
  · exact opsLanes_settled op h
  rcases List.mem_append.mp h with h | h
  · exact opsRem_settled op h
  · exact opsList_settled op h

/-! ## What they compute -/

/-- The table with 352 rows of zeros below. -/
def padded (e : FVec F S100000x256 .f32) : FVec F S100352x256 .f32 :=
  pad S100352x256 ![0, 0] ![352, 0] ![0, 0] e (sitofp .f32 (constantI S_ 32 0#32)) pads_S100000x256_S100352x256_03520_000 h_S_

/-- The scores, −∞ in the columns of the padding rows. -/
def masked (s : FVec F S1024x100352 .f32) : FVec F S1024x100352 .f32 :=
  select (broadcastInDim S1024x100352 ![0, 1] bcast_S1x100352_S1024x100352_0_1 (broadcastInDim S1x100352 ![1] bcast_S100352_S1x100352_1
      (cmpi .slt (iotaInDim S100352 32 0) (broadcastInDim S100352 ![] bcast_S_S100352 (constantI S_ 32 100000#32)))))
    s (broadcastInDim S1024x100352 ![] bcast_S_S1024x100352 (constant S_ .f32 0xFF800000#32))

/-- The columns of the 64 largest masked scores of every row, largest first. -/
def topCols (s : FVec F S1024x100352 .f32) : IVec S1024x64 32 :=
  (Host.topK S1024x64 1 (FloatOps.cmpfTotal .gt) (masked s) sliceFits_S1024x100352_S1024x64).2

/-- Which of the 64 lanes of a row lie below the row's limit. -/
def wanted (k : IVec S4x256 32) : IVec S1024x64 1 :=
  cmpi .slt (broadcastInDim S1024x64 ![0, 1] bcast_S1x64_S1024x64_0_1 (broadcastInDim S1x64 ![1] bcast_S64_S1x64_1 (iotaInDim S64 32 0)))
    (broadcastInDim S1024x64 ![0, 1] bcast_S1024x1_S1024x64_0_1 (shapeCast S1024x1 k shapeCasts_S4x256_S1024x1))

/-- The divisor the host's remainder divides by: one in place of zero. -/
def divisor (c : IVec S_ 32) : IVec S_ 32 := select (cmpi .eq (id c) (constantI S_ 32 0#32)) (constantI S_ 32 1#32) (id c)

/-- The remainder with the sign of the dividend. -/
def rem₀ (x : IVec S1024x64 32) (c : IVec S_ 32) : IVec S1024x64 32 :=
  Host.remsi x (broadcastInDim S1024x64 ![] bcast_S_S1024x64 (divisor c))

/-- The remainder with the sign of the divisor. -/
def floorRem (x : IVec S1024x64 32) (c : IVec S_ 32) : IVec S1024x64 32 :=
  select (andi (cmpi .ne (cmpi .slt (rem₀ x c) (broadcastInDim S1024x64 ![] bcast_S_S1024x64 (constantI S_ 32 0#32)))
        (broadcastInDim S1024x64 ![] bcast_S_S1024x64 (cmpi .slt (divisor c) (constantI S_ 32 0#32))))
      (cmpi .ne (rem₀ x c) (broadcastInDim S1024x64 ![] bcast_S_S1024x64 (constantI S_ 32 0#32))))
    (addi (rem₀ x c) (broadcastInDim S1024x64 ![] bcast_S_S1024x64 (divisor c))) (rem₀ x c)

/-- The padding rows a lane at or above its row's limit fetches, spread over all 352. -/
def spare : IVec S1024x64 32 :=
  addi (broadcastInDim S1024x64 ![] bcast_S_S1024x64 (constantI S_ 32 100000#32))
    (floorRem (shapeCast S1024x64 (iotaInDim S65536 32 0) shapeCasts_S65536_S1024x64) (constantI S_ 32 352#32))

/-- The list of rows the SparseCores fetch. -/
def rowList (s : FVec F S1024x100352 .f32) (k : IVec S4x256 32) : IVec S65536 32 :=
  shapeCast S65536 (select (wanted k) (topCols s) spare) shapeCasts_S1024x64_S65536

variable (V : Valuation τ sig (Elt F))

theorem opsIn_query : after opsIn V (Proc.devRef .tc main_v0)
    = (shapeCast S1024x256 (V (Proc.devRef .tc main_arg0)) shapeCasts_S4x256x256_S1024x256 : FVec F S1024x256 .f32) := by
  after_results <;> rfl
theorem opsIn_table : after opsIn V (Proc.devRef .tc main_v1) = padded (V (Proc.devRef .tc main_arg1)) := by
  after_results <;> rfl
theorem opsMask_scores : after opsMask V (Proc.devRef .tc main_v7) = masked (V (Proc.devRef .tc main_v2)) := by
  after_results <;> rfl
theorem opsTop_cols : after opsTop V (Proc.devRef .tc main_indices)
    = (Host.topK S1024x64 1 (FloatOps.cmpfTotal .gt) (V (Proc.devRef .tc main_v7) : FVec F S1024x100352 .f32) sliceFits_S1024x100352_S1024x64).2 := by
  after_results <;> rfl
theorem opsLanes_lanes : after opsLanes V (Proc.devRef .tc main_v9)
    = (broadcastInDim S1x64 ![1] bcast_S64_S1x64_1 (iotaInDim S64 32 0) : IVec S1x64 32) := by
  after_results <;> rfl
theorem opsLanes_limits : after opsLanes V (Proc.devRef .tc main_v10)
    = (shapeCast S1024x1 (V (Proc.devRef .tc main_arg2)) shapeCasts_S4x256_S1024x1 : IVec S1024x1 32) := by
  after_results <;> rfl
theorem opsLanes_flat : after opsLanes V (Proc.devRef .tc main_v12)
    = (shapeCast S1024x64 (iotaInDim S65536 32 0) shapeCasts_S65536_S1024x64 : IVec S1024x64 32) := by
  after_results <;> rfl
theorem opsLanes_divisor : after opsLanes V (Proc.devRef .tc main_c_1) = (constantI S_ 32 352#32 : IVec S_ 32) := by
  after_results <;> rfl
theorem opsRem_rem : after opsRem V (Proc.devRef .tc main_v13)
    = floorRem (V (Proc.devRef .tc main_v12)) (V (Proc.devRef .tc main_c_1)) := by
  after_results <;> rfl
theorem opsList_rows : after opsList V (Proc.devRef .tc main_v20)
    = (shapeCast S65536 (select (cmpi .slt
          (broadcastInDim S1024x64 ![0, 1] bcast_S1x64_S1024x64_0_1 (V (Proc.devRef .tc main_v9) : IVec S1x64 32))
          (broadcastInDim S1024x64 ![0, 1] bcast_S1024x1_S1024x64_0_1 (V (Proc.devRef .tc main_v10) : IVec S1024x1 32)))
        (V (Proc.devRef .tc main_indices) : IVec S1024x64 32)
        (addi (broadcastInDim S1024x64 ![] bcast_S_S1024x64 (constantI S_ 32 100000#32)) (V (Proc.devRef .tc main_v13) : IVec S1024x64 32)))
      shapeCasts_S1024x64_S65536 : IVec S65536 32) := by
  after_results <;> rfl
theorem opsList_table : after opsList V (Proc.devRef .tc main_v21)
    = (shapeCast S100352x2x128 (V (Proc.devRef .tc main_v1)) shapeCasts_S100352x256_S100352x2x128 : FVec F S100352x2x128 .f32) := by
  after_results <;> rfl
theorem opsOut_result : after opsOut V (Proc.devRef .tc main_v23)
    = (shapeCast S4x256x64x256 (V (Proc.devRef .tc main_v22)) shapeCasts_S65536x2x128_S4x256x64x256 : FVec F S4x256x64x256 .f32) := by
  after_results <;> rfl

/-! ## What they leave alone -/

abbrev opsInW : List (Ref sig .tc) := [main_v0, main_c, main_call0_v0, main_v1]
theorem opsIn_keeps {r : Ref sig .tc} (hr : r ∉ opsInW) : after opsIn V (Proc.devRef .tc r) = V (Proc.devRef .tc r) :=
  after_of_writes_sub opsIn V (forall_writes_sub_of_map rfl) hr
abbrev opsMaskW : List (Ref sig .tc) := [main_v3, main_c_0, main_v4, main_v5, main_v6, main_cst, main_call1_v0, main_call1_v1, main_v7]
theorem opsMask_keeps {r : Ref sig .tc} (hr : r ∉ opsMaskW) : after opsMask V (Proc.devRef .tc r) = V (Proc.devRef .tc r) :=
  after_of_writes_sub opsMask V (forall_writes_sub_of_map rfl) hr
abbrev opsTopW : List (Ref sig .tc) := [main_values, main_indices]
theorem opsTop_keeps {r : Ref sig .tc} (hr : r ∉ opsTopW) : after opsTop V (Proc.devRef .tc r) = V (Proc.devRef .tc r) :=
  after_of_writes_sub opsTop V (forall_writes_sub_of_map rfl) hr
abbrev opsLanesW : List (Ref sig .tc) := [main_v8, main_v9, main_v10, main_v11, main_v12, main_c_1]
theorem opsLanes_keeps {r : Ref sig .tc} (hr : r ∉ opsLanesW) : after opsLanes V (Proc.devRef .tc r) = V (Proc.devRef .tc r) :=
  after_of_writes_sub opsLanes V (forall_writes_sub_of_map rfl) hr
abbrev opsRemW : List (Ref sig .tc) := [main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v13]
theorem opsRem_keeps {r : Ref sig .tc} (hr : r ∉ opsRemW) : after opsRem V (Proc.devRef .tc r) = V (Proc.devRef .tc r) :=
  after_of_writes_sub opsRem V (forall_writes_sub_of_map rfl) hr
abbrev opsListW : List (Ref sig .tc) := [main_c_2, main_v14, main_v15, main_v16, main_v17, main_v18, main_v19, main_v20, main_v21]
theorem opsList_keeps {r : Ref sig .tc} (hr : r ∉ opsListW) : after opsList V (Proc.devRef .tc r) = V (Proc.devRef .tc r) :=
  after_of_writes_sub opsList V (forall_writes_sub_of_map rfl) hr
abbrev opsOutW : List (Ref sig .tc) := [main_v23]
theorem opsOut_keeps {r : Ref sig .tc} (hr : r ∉ opsOutW) : after opsOut V (Proc.devRef .tc r) = V (Proc.devRef .tc r) :=
  after_of_writes_sub opsOut V (forall_writes_sub_of_map rfl) hr

abbrev opsMidW : List (Ref sig .tc) := opsMaskW ++ (opsTopW ++ (opsLanesW ++ (opsRemW ++ opsListW)))

theorem opsMid_eq : after opsMid V = after opsList (after opsRem (after opsLanes (after opsTop (after opsMask V)))) := rfl

theorem opsMid_keeps {r : Ref sig .tc} (hr : r ∉ opsMidW) : after opsMid V (Proc.devRef .tc r) = V (Proc.devRef .tc r) := by
  simp only [opsMidW, List.mem_append, not_or] at hr
  rw [opsMid_eq, opsList_keeps _ hr.2.2.2.2, opsRem_keeps _ hr.2.2.2.1, opsLanes_keeps _ hr.2.2.1, opsTop_keeps _ hr.2.1,
    opsMask_keeps _ hr.1]

/-- The list of rows, out of the scores and the limits. -/
theorem opsMid_rows : after opsMid V (Proc.devRef .tc main_v20)
    = rowList (V (Proc.devRef .tc main_v2)) (V (Proc.devRef .tc main_arg2)) := by
  rw [opsMid_eq, opsList_rows, opsRem_rem, opsRem_keeps _ (r := main_v9) (by decide), opsRem_keeps _ (r := main_v10) (by decide),
    opsRem_keeps _ (r := main_indices) (by decide), opsLanes_lanes, opsLanes_limits, opsLanes_flat, opsLanes_divisor,
    opsLanes_keeps _ (r := main_indices) (by decide), opsTop_cols, opsTop_keeps _ (r := main_arg2) (by decide), opsMask_scores,
    opsMask_keeps _ (r := main_arg2) (by decide)]
  rfl

/-- The table in the fetch's shape. -/
theorem opsMid_table : after opsMid V (Proc.devRef .tc main_v21)
    = (shapeCast S100352x2x128 (V (Proc.devRef .tc main_v1)) shapeCasts_S100352x256_S100352x2x128 : FVec F S100352x2x128 .f32) := by
  rw [opsMid_eq, opsList_table, opsRem_keeps _ (r := main_v1) (by decide), opsLanes_keeps _ (r := main_v1) (by decide),
    opsTop_keeps _ (r := main_v1) (by decide), opsMask_keeps _ (r := main_v1) (by decide)]

end Cert.Proof.Pool

end
-- ==== Proof.Range.lean ====
/-
  The list of rows the SparseCores fetch stays inside the padded table, whatever the scores are: a lane below its
  row's limit fetches one of the columns a top-k lists (so one of the 100352), every other lane one of the 352 padding
  rows.
-/
module

public import proofs.«01_k».proof.Proof.Host
public import Idealize.ShloMosaic.Lib.Affine
public import Idealize.ShloMosaic.Lib.WordCmp

@[expose] public section

set_option maxRecDepth 16384

noncomputable section

namespace Cert.Proof.Pool

open Cert.KernelIdeal Cert.KernelIdeal.Gen
open Idealize.ShloMosaic

variable {F : FTy → Type} [FloatOps F]

/-- Row `r`, column `c` of an array of two axes. -/
def cell {m n : Nat} (r : Fin m) (c : Fin n) : (⟨2, ![m, n]⟩ : Shape).Idx := fun a => match a with
  | 0 => r
  | 1 => c

theorem cell_self {m n : Nat} (i : (⟨2, ![m, n]⟩ : Shape).Idx) : cell (i 0) (i 1) = i := by
  funext a
  match a with
  | 0 => rfl
  | 1 => rfl

/-- The order a top-k puts the columns of one row in. -/
def rowBefore {α : Type} {m n : Nat} (gt : α → α → BitVec 1) (x : (⟨2, ![m, n]⟩ : Shape).Idx → α) (r : Fin m)
    (a b : Fin n) : Bool := gt (x (cell r a)) (x (cell r b)) == 1#1

theorem along_cell {m n : Nat} (j : (⟨2, ![m, n]⟩ : Shape).Idx) (c : Fin n) : j.along (1 : Fin 2) c = cell (j 0) c := by
  funext a
  match a with
  | 0 => rfl
  | 1 => rfl

/-- What a top-k along the second axis reports as its indices: the sorted row's first columns. -/
theorem topK_index {α : Type} {m n k : Nat} (gt : α → α → BitVec 1) (x : (⟨2, ![m, n]⟩ : Shape).Idx → α)
    (h : (⟨2, ![m, n]⟩ : Shape).Slices (fun _ => 0) ⟨2, ![m, k]⟩) (hk : k ≤ n) (i : (⟨2, ![m, k]⟩ : Shape).Idx) :
    (Host.topK ⟨2, ![m, k]⟩ 1 gt x h).2 i
      = BitVec.ofNat 32 (sortedFrom (rowBefore gt x (i 0)) (Fin.castLE hk (i 1))).val := by
  unfold Host.topK extractStridedSlice
  simp only []
  generalize hJ : ((fun a : Fin 2 => ⟨0 + (i (a.cast h.1.symm)).val,
    Nat.lt_of_lt_of_le (Nat.add_lt_add_left (i _).isLt _) (h.2 a)⟩) : (⟨2, ![m, n]⟩ : Shape).Idx) = J
  have h0 : J 0 = i 0 := by
    subst hJ
    exact Fin.ext (Nat.zero_add _)
  have h1 : J 1 = Fin.castLE hk (i 1) := by
    subst hJ
    exact Fin.ext (Nat.zero_add _)
  change (Host.sort2 (⟨2, ![m, n]⟩ : Shape) 1 (fun l r : α × BitVec 32 => gt l.1 r.1) x
    (fun j => if hd : 1 < 2 then iotaInDim (⟨2, ![m, n]⟩ : Shape) 32 ⟨1, hd⟩ j else 0#32)).2 J = _
  unfold Host.sort2
  rw [dif_pos (show 1 < (⟨2, ![m, n]⟩ : Shape).rank from Nat.one_lt_two)]
  show (if hd : 1 < 2 then iotaInDim (⟨2, ![m, n]⟩ : Shape) 32 ⟨1, hd⟩ (Shape.Idx.along (s := ⟨2, ![m, n]⟩) J (1 : Fin 2)
    (sortedFrom (fun a b => gt (x (Shape.Idx.along (s := ⟨2, ![m, n]⟩) J (1 : Fin 2) a)) (x (Shape.Idx.along (s := ⟨2, ![m, n]⟩) J (1 : Fin 2) b)) == 1#1) (J 1))) else 0#32) = _
  rw [dif_pos Nat.one_lt_two]
  have hal : ∀ c : Fin n, Shape.Idx.along (s := ⟨2, ![m, n]⟩) J (1 : Fin 2) c = cell (i 0) c := fun c =>
    (along_cell (m := m) (n := n) J c).trans (congrArg (fun r : Fin m => cell r c) h0)
  have hb : (fun a b : Fin n => gt (x (Shape.Idx.along (s := ⟨2, ![m, n]⟩) J (1 : Fin 2) a))
      (x (Shape.Idx.along (s := ⟨2, ![m, n]⟩) J (1 : Fin 2) b)) == 1#1) = rowBefore gt x (i 0) := by
    funext a b
    rw [hal a, hal b]
    rfl
  refine (congrArg (fun B : Fin n → Fin n → Bool => BitVec.ofNat 32 (sortedFrom B (J 1)).val) hb).trans ?_
  rw [h1]

theorem topCols_eq (s : FVec F S1024x100352 .f32) (i : S1024x64.Idx) :
    topCols s i = BitVec.ofNat 32 (sortedFrom (rowBefore (FloatOps.cmpfTotal .gt) (masked s) (i 0))
      (Fin.castLE (by decide : 64 ≤ 100352) (i 1))).val :=
  topK_index (m := 1024) (n := 100352) (k := 64) _ _ _ _ i

theorem topCols_lt (s : FVec F S1024x100352 .f32) (i : S1024x64.Idx) : (topCols s i).toNat < 100352 := by
  rw [topCols_eq]
  have := (sortedFrom (rowBefore (FloatOps.cmpfTotal .gt) (masked s) (i 0)) (Fin.castLE (by decide : 64 ≤ 100352) (i 1))).isLt
  rw [BitVec.toNat_ofNat]
  omega

/-- The remainder of a lane's number by 352, as the host computes it. -/
theorem floorRem_small (x : IVec S1024x64 32) (i : S1024x64.Idx) (hx : (x i).toNat < 65536) :
    (floorRem x (constantI S_ 32 352#32) i).toNat = (x i).toNat % 352 := by
  have hd : ∀ j, divisor (constantI S_ 32 352#32) j = BitVec.ofNat 32 352 := fun j => rfl
  have hr : (rem₀ x (constantI S_ 32 352#32) i).toNat = (x i).toNat % 352 :=
    IntOp.toNat_remsi .host (x := x i) (by omega) 352 (by decide) (by decide)
  have hlt : (x i).toNat % 352 < 352 := Nat.mod_lt _ (by decide)
  show (if (IntOp.andi (IntOp.cmpi .ne (IntOp.cmpi .slt (rem₀ x (constantI S_ 32 352#32) i) 0#32)
      (IntOp.cmpi .slt (352#32 : BitVec 32) 0#32)) (IntOp.cmpi .ne (rem₀ x (constantI S_ 32 352#32) i) 0#32)) = 1#1
      then IntOp.addi (rem₀ x (constantI S_ 32 352#32) i) 352#32 else rem₀ x (constantI S_ 32 352#32) i).toNat = _
  have hs : IntOp.cmpi .slt (rem₀ x (constantI S_ 32 352#32) i) 0#32 = 0#1 := by
    rw [WordCmp.cmpi_slt_zero, hr, decide_eq_false (by omega)]
    rfl
  have hc : IntOp.cmpi .slt (352#32 : BitVec 32) 0#32 = 0#1 := by decide
  rw [hs, hc, show IntOp.cmpi .ne (0#1 : BitVec 1) 0#1 = 0#1 from by decide, if_neg, hr]
  rw [IntOp.andi_eq_one]
  rintro ⟨h, -⟩
  exact absurd h (by decide)

theorem spare_range (i : S1024x64.Idx) : 100000 ≤ (spare i).toNat ∧ (spare i).toNat < 100352 := by
  have hx : ((shapeCast S1024x64 (iotaInDim S65536 32 0) shapeCasts_S65536_S1024x64 : IVec S1024x64 32) i).toNat < 65536 := by
    show (BitVec.ofNat 32 ((Shape.reshapeEquiv shapeCasts_S65536_S1024x64 i) 0).val).toNat < 65536
    have := ((Shape.reshapeEquiv shapeCasts_S65536_S1024x64 i) 0).isLt
    have h' : ((Shape.reshapeEquiv shapeCasts_S65536_S1024x64 i) 0).val < 65536 := this
    rw [BitVec.toNat_ofNat]
    omega
  have h := floorRem_small _ i hx
  have hm : ((shapeCast S1024x64 (iotaInDim S65536 32 0) shapeCasts_S65536_S1024x64 : IVec S1024x64 32) i).toNat % 352 < 352 :=
    Nat.mod_lt _ (by decide)
  have e : (spare i).toNat = (100000 + (floorRem (shapeCast S1024x64 (iotaInDim S65536 32 0) shapeCasts_S65536_S1024x64)
      (constantI S_ 32 352#32) i).toNat) % 2 ^ 32 := BitVec.toNat_add _ _
  rw [e, h]
  omega

theorem rowList_lt (s : FVec F S1024x100352 .f32) (k : IVec S4x256 32) (j : S65536.Idx) : (rowList s k j).toNat < 100352 := by
  show (if wanted k (Shape.reshapeEquiv shapeCasts_S1024x64_S65536 j) = 1#1
    then topCols s (Shape.reshapeEquiv shapeCasts_S1024x64_S65536 j)
    else spare (Shape.reshapeEquiv shapeCasts_S1024x64_S65536 j)).toNat < 100352
  split
  · exact topCols_lt s _
  · exact (spare_range _).2

end Cert.Proof.Pool

end
-- ==== Proof.Launch.lean ====
/-
  The whole program's run: @main on the TensorCore (the table padded, the scores by the TensorCore's call, the list of
  rows by the host, the rows by the SparseCores, the final reshape), what the launch deals out, and the run's
  conclusion: the result array holds the gathered rows, the arguments are unchanged, every counter is zero.
-/
module

public import proofs.«01_k».proof.Proof.Call
public import proofs.«01_k».proof.Proof.Region
public import proofs.«01_k».proof.Proof.Range

@[expose] public section

set_option maxRecDepth 16384

noncomputable section

namespace Cert.Proof.Pool

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.ShloMosaic.StableHlo (after held seq seqK launchContents tcRefs)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The buffers, stage by stage -/

/-- Before the TensorCore's call. -/
def vIn : Entry F := fun d => after opsIn (launchContents m d)
/-- After it. -/
def vScore (d : Dev nD) : Valuation τ sig (Elt F) := afterScore (vIn m) d
/-- Before the SparseCores' call. -/
def vMid (d : Dev nD) : Valuation τ sig (Elt F) := after opsMid (vScore m d)

/-- The SparseCore call's data, out of those buffers. -/
def callData : CallData F where
  tb d := vMid m d (Proc.devRef .tc main_v21)
  ix d := vMid m d (Proc.devRef .tc main_v20)
  o0 d := vMid m d (Proc.devRef .tc main_v22)
  inRange d j := by
    show ((after opsMid (vScore m d) (Proc.devRef .tc main_v20) : S65536.Idx → BitVec 32) j).toNat < 100352
    rw [opsMid_rows]
    exact rowList_lt _ _ j

theorem vIn_eq (d : Dev nD) : vIn m d = after opsIn (launchContents m d) := rfl
theorem vScore_eq (d : Dev nD) : vScore m d = afterScore (vIn m) d := rfl
theorem vMid_eq (d : Dev nD) : vMid m d = after opsMid (vScore m d) := rfl

attribute [local irreducible] vMid vScore vIn

/-- After the SparseCores' call. -/
def vCall (d : Dev nD) : Valuation τ sig (Elt F) :=
  Function.update (vMid m d) (Proc.devRef .tc main_v22) (gat ((callData m).tb d) ((callData m).ix d))
/-- At the end. -/
def vEnd (d : Dev nD) : Valuation τ sig (Elt F) := after opsOut (vCall m d)

/-! ## The host's runs -/

theorem within {ops : List (HloOp τ sig (Elt F))} (h : ops.Forall fun op => op.bufs ⊆ tcRefs τ sig) :
    ∀ op ∈ ops, op.bufs ⊆ ucRefs τ sig := fun op hop => Pipeline.sub_ucRefs op (List.forall_iff_forall_mem.1 h op hop)

/-- A run of host operations, every unscoped buffer held. -/
theorem wp_host (d : Dev nD) (ops : List (HloOp τ sig (Elt F))) (hw : ops.Forall fun op => op.bufs ⊆ tcRefs τ sig)
    (hf : ∀ op ∈ ops, op.fresh = ∅) (k : Prog (TpuEff nD τ sig (Elt F) (SparseCore.Sig (ΛP (F := F)) 1) .tc) PUnit)
    (V : Valuation τ sig (Elt F)) (Q : PUnit → sProp 𝕄) :
    iprop((boundary (d.tc : Thread nD τ) ∗ held (d.tc : Thread nD τ) (ucRefs τ sig) V)
        ∗ ((boundary (d.tc : Thread nD τ) ∗ held (d.tc : Thread nD τ) (ucRefs τ sig) (after ops V))
            -∗ wp frame (wpE ((K (F := F)).defs D) 𝒱 (d.tc : Thread nD τ) none) Set.univ k Q))
      ⊢ wp frame (wpE ((K (F := F)).defs D) 𝒱 (d.tc : Thread nD τ) none) Set.univ (seqK ops k) Q := by
  rw [← StableHlo.seq_bind_seqK]
  iintro ⟨H, Hk⟩
  iapply (StableHlo.wp_seq 𝒱 none Set.univ d (ucRefs τ sig) (fun _ => k) ops (within hw) hf V) $$ H
  iexact Hk

/-- The three arrays of the SparseCore call. -/
abbrev callRefs : Finset (DevRef τ sig) :=
  {(Proc.devRef .tc main_v20 : DevRef τ sig), (Proc.devRef .tc main_v21 : DevRef τ sig), (Proc.devRef .tc main_v22 : DevRef τ sig)}

theorem callRefs_sub : callRefs ⊆ ucRefs τ sig := by decide

theorem held_call (d : Dev nD) (W : Valuation τ sig (Elt F)) :
    (held (d.tc : Thread nD τ) callRefs W : sProp 𝕄)
      = iprop((iLoc d ↦{fullShare} W (Proc.devRef .tc main_v20)) ∗ (tLoc d ↦{fullShare} W (Proc.devRef .tc main_v21))
          ∗ oLoc d ↦{fullShare} W (Proc.devRef .tc main_v22)) := by
  unfold held callRefs
  rw [SparseCore.bigSep_insert' (by decide), SparseCore.bigSep_insert' (by decide), bigSep_singleton]

theorem rest_call (d : Dev nD) :
    (held (d.tc : Thread nD τ) (ucRefs τ sig \ callRefs) (vCall m d) : sProp 𝕄)
      = held (d.tc : Thread nD τ) (ucRefs τ sig \ callRefs) (vMid m d) :=
  StableHlo.held_congr _ fun b hb => Function.update_of_ne (fun h => (Finset.mem_sdiff.mp hb).2 (by rw [h]; decide)) _ _

/-- The held buffers before the SparseCores' call: what the call takes, and the rest. -/
theorem open_call (d : Dev nD) :
    (held (d.tc : Thread nD τ) (ucRefs τ sig) (vMid m d) : sProp 𝕄)
      = iprop((bigSep Finset.univ fun c : Fin ((K (F := F)).nCore 0) => (P (callData m)).st 0 d c)
          ∗ held (d.tc : Thread nD τ) (ucRefs τ sig \ callRefs) (vMid m d)) := by
  rw [StableHlo.held_sub_split _ callRefs_sub, held_call, st0_eq]
  rfl

/-- And after it. -/
theorem close_call (d : Dev nD) :
    (held (d.tc : Thread nD τ) (ucRefs τ sig) (vCall m d) : sProp 𝕄)
      = iprop((bigSep Finset.univ fun c : Fin ((K (F := F)).nCore 0) => (P (callData m)).dn 0 d c)
          ∗ held (d.tc : Thread nD τ) (ucRefs τ sig \ callRefs) (vMid m d)) := by
  rw [StableHlo.held_sub_split _ callRefs_sub, rest_call, held_call, dn0_eq,
    show vCall m d (Proc.devRef .tc main_v20) = vMid m d (Proc.devRef .tc main_v20) from Function.update_of_ne (by decide) _ _,
    show vCall m d (Proc.devRef .tc main_v21) = vMid m d (Proc.devRef .tc main_v21) from Function.update_of_ne (by decide) _ _,
    show vCall m d (Proc.devRef .tc main_v22) = gat ((callData m).tb d) ((callData m).ix d) from Function.update_self _ _ _]
  rfl

/-! ## @main -/

/-- What the TensorCore holds at the end beside the launch's own. -/
abbrev FIN (d : Dev nD) : sProp 𝕄 := held (d.tc : Thread nD τ) (ucRefs τ sig) (vEnd m d)

abbrev endAt (d : Dev nD) : PUnit → sProp 𝕄 := fun _ => iprop((K (F := F)).tcSt EH d 1 ∗ FIN m d ∗ (K (F := F)).tcEnd d)

/-- From the SparseCores' call on. -/
theorem wp_tail (κ : GSem nD τ sig → ℕ) (d : Dev nD) :
    iprop((K (F := F)).ctx EH (P (callData m)) κ ∗ (K (F := F)).tcSt EH d 0 ∗ (K (F := F)).tcSems0 d
        ∗ boundary (d.tc : Thread nD τ) ∗ held (d.tc : Thread nD τ) (ucRefs τ sig) (vMid m d))
      ⊢ wp frame (wpE ((K (F := F)).defs D) 𝒱 (d.tc : Thread nD τ) none) Set.univ
          ((sc (F := F)).run d 0 >>= fun _ => seqK opsOut (pure ⟨⟩)) (endAt m d) := by
  rw [open_call, wp_bind]
  iintro ⟨#Hctx, Hst, Hts, Hb, Hcall, Hrest⟩
  iapply ((K (F := F)).wp_run D 𝒱 (EH := EH) (P := P (callData m)) κ d 0) $$ [Hst Hcall Hrest Hb Hts]
  isplitr; · iexact Hctx
  isplitl [Hst]; · iexact Hst
  isplitl [Hcall]; · iexact Hcall
  iintro ⟨Hst, Hdn⟩
  ihave Hh := (Entails.of_eq (close_call m d).symm) $$ [Hdn Hrest]
  · isplitl [Hdn]; · iexact Hdn
    iexact Hrest
  iapply (wp_host d opsOut opsOut_within opsOut_settled (pure ⟨⟩) (vCall m d) (endAt m d))
  isplitl [Hb Hh]
  · isplitl [Hb]; · iexact Hb
    iexact Hh
  iintro ⟨Hb, Hh⟩
  sl_step
  unfold endAt SparseCore.Cfg.tcEnd
  isplitl [Hst]; · iexact Hst
  isplitl [Hh]; · iexact Hh
  isplitl [Hb]; · iexact Hb
  iexact Hts

/-- What the TensorCore owes before call 0, taken out of its state, and put back. -/
theorem dues_open (d : Dev nD) :
    ((K (F := F)).tcSt EH d 0 : sProp 𝕄) ⊢ iprop(duesAt (F := F) d ∗ (duesAt (F := F) d -∗ (K (F := F)).tcSt EH d 0)) := by
  unfold SparseCore.Cfg.tcSt duesAt
  iintro ⟨⟨%R, %hR, HO⟩, Hrest⟩
  isplitl [HO]
  · iexists R
    isplitr
    · ipureintro
      intro p hp
      obtain ⟨s, i⟩ := p
      cases i with
      | none => rfl
      | some q => exact absurd (hR _ hp) (Nat.not_le.mpr ((K (F := F)).lev_some_pos _ q))
    · iexact HO
  iintro ⟨%R', %hR', HO⟩
  isplitl [HO]
  · iexists R'
    isplitr
    · ipureintro
      intro p hp
      rw [hR' p hp]
      exact Nat.zero_le _
    · iexact HO
  iexact Hrest

/-- From the scores on. -/
theorem wp_mid (κ : GSem nD τ sig → ℕ) (d : Dev nD) :
    iprop((K (F := F)).ctx EH (P (callData m)) κ ∗ (K (F := F)).tcSt EH d 0 ∗ (K (F := F)).tcSems0 d
        ∗ boundary (d.tc : Thread nD τ) ∗ held (d.tc : Thread nD τ) (ucRefs τ sig) (vScore m d))
      ⊢ wp frame (wpE ((K (F := F)).defs D) 𝒱 (d.tc : Thread nD τ) none) Set.univ
          (seqK opsMid ((sc (F := F)).run d 0 >>= fun _ => seqK opsOut (pure ⟨⟩))) (endAt m d) := by
  refine BIBase.Entails.trans ?_ (wp_host d opsMid opsMid_within opsMid_settled _ (vScore m d) (endAt m d))
  rw [← vMid_eq]
  iintro ⟨#Hctx, Hst, Hts, Hb, Hh⟩
  isplitl [Hb Hh]
  · isplitl [Hb]; · iexact Hb
    iexact Hh
  iintro ⟨Hb, Hh⟩
  iapply (wp_tail m κ d)
  isplitr; · iexact Hctx
  isplitl [Hst]; · iexact Hst
  isplitl [Hts]; · iexact Hts
  isplitl [Hb]; · iexact Hb
  iexact Hh

/-- From the TensorCore's call on. -/
theorem wp_calls [∀ e, Nonempty (Elt F e)] (κ : GSem nD τ sig → ℕ) (d : Dev nD) :
    iprop((K (F := F)).ctx EH (P (callData m)) κ ∗ (K (F := F)).tcSt EH d 0 ∗ (K (F := F)).tcSems0 d ∗ scoreGhost (F := F) d
        ∗ boundary (d.tc : Thread nD τ) ∗ held (d.tc : Thread nD τ) (ucRefs τ sig) (vIn m d))
      ⊢ wp frame (wpE ((K (F := F)).defs D) 𝒱 (d.tc : Thread nD τ) none) Set.univ
          (Prog.lift (.customCall (SparseCore.inner (Pipeline.entry 0)) ()) >>= fun _ =>
            seqK opsMid ((sc (F := F)).run d 0 >>= fun _ => seqK opsOut (pure ⟨⟩))) (endAt m d) := by
  rw [wp_bind]
  refine BIBase.Entails.trans ?_ (wp_score (vIn m) d _)
  rw [← vScore_eq]
  iintro ⟨#Hctx, Hst, Hts, Hg, Hb, Hh⟩
  ihave Hlev := (SparseCore.Cfg.ctx_levAts κ) $$ Hctx
  ihave Hd := (dues_open (F := F) d) $$ Hst
  icases Hd with ⟨Hd, Hback⟩
  isplitl [Hback Hts]
  · iintro ⟨Hb, Hh, Hd⟩
    iapply (wp_mid m κ d)
    isplitr; · iexact Hctx
    isplitl [Hback Hd]
    · iapply Hback
      iexact Hd
    isplitl [Hts]; · iexact Hts
    isplitl [Hb]; · iexact Hb
    iexact Hh
  isplitl [Hb]; · iexact Hb
  isplitl [Hh Hd]
  · isplitl [Hh]; · iexact Hh
    iexact Hd
  isplitr [Hg]; · iexact Hlev
  iexact Hg

/-- @main on device `d`'s TensorCore. -/
theorem hmain [∀ e, Nonempty (Elt F e)] (κ : GSem nD τ sig → ℕ) (d : Dev nD) :
    iprop((K (F := F)).ctx EH (P (callData m)) κ ∗ (K (F := F)).tcSt EH d 0 ∗ (K (F := F)).tcRes m ρ d ∗ scoreGhost (F := F) d)
      ⊢ wp frame (wpE ((K (F := F)).defs D) 𝒱 (SparseCore.T d) none) Set.univ (main d) (endAt m d) := by
  unfold SparseCore.Cfg.tcRes
  rw [show (unscopedBufs d (fun b => m ((SparseCore.T d).loc b)) : sProp 𝕄)
      = held (d.tc : Thread nD τ) (ucRefs τ sig) (launchContents m d) from Pipeline.unscopedBufs_held d (launchContents m d), main_lines]
  refine BIBase.Entails.trans ?_ (wp_host d opsIn opsIn_within opsIn_settled _ (launchContents m d) (endAt m d))
  rw [← vIn_eq]
  iintro ⟨#Hctx, Hst, ⟨Hb, Hh, Hts, -⟩, Hg⟩
  isplitl [Hb Hh]
  · isplitl [Hb]; · iexact Hb
    iexact Hh
  iintro ⟨Hb, Hh⟩
  iapply (wp_calls m κ d)
  isplitr; · iexact Hctx
  isplitl [Hst]; · iexact Hst
  isplitl [Hts]; · iexact Hts
  isplitl [Hg]; · iexact Hg
  isplitl [Hb]; · iexact Hb
  iexact Hh

/-! ## The launch element of the ghost state -/

def u₀ : UU := (initOf (K (F := F)).hsCells (K (F := F)).hsToks,
  (initOf (Pipeline.cells (Pipeline.pin (pcfgs (F := F)) adm) cells_inj) (Pipeline.launchToks (Pipeline.pin (pcfgs (F := F)) adm) cells_inj), 1))

theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem bigSep_one (Φ : Fin 1 → Dev nD → sProp 𝕄) :
    (bigSep Finset.univ fun c : Dev nD => bigSep Finset.univ fun p : Fin 1 => Φ p c) = bigSep Finset.univ (Φ 0) :=
  bigSep_congr fun _ _ => bigSep_univ_of_subsingleton (0 : Fin 1)

theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => scoreGhost (F := F) d)
        ∗ bigSep Finset.univ fun thr : Thread nD τ => bigSep Finset.univ fun q : Fin 1 => (P (callData m)).x q thr) := by
  unfold u₀
  iintro Hu
  ihave H := (ownU_split (F := F) _ _) $$ Hu
  icases H with ⟨HH, HP⟩
  imod (Pipeline.fund_ghost (Pipeline.pin (pcfgs (F := F)) adm) (EP (F := F)) cells_inj) $$ HP with ⟨Hc, Ht⟩
  imodintro
  isplitl [HH]; · iexact HH
  isplitl [Hc Ht]
  · unfold scoreGhost
    rw [bigSep_sep']
    isplitl [Hc]
    · iapply (Entails.of_eq (bigSep_one (F := F) (Pipeline.cellsGhost (Pipeline.pin (pcfgs (F := F)) adm) EP)))
      iexact Hc
    · iapply (Entails.of_eq (bigSep_one (F := F) (Pipeline.toksInit (Pipeline.pin (pcfgs (F := F)) adm) EP)))
      iexact Ht
  rw [show (bigSep Finset.univ fun thr : Thread nD τ => bigSep Finset.univ fun q : Fin 1 => (P (callData m)).x q thr)
      = bigSep Finset.univ fun _ => (iprop(emp) : sProp 𝕄) from bigSep_congr fun _ _ => bigSep_univ_of_subsingleton (0 : Fin 1), bigSep_none]
  iempintro

/-! ## The run -/

def fq (d : Dev nD) (s' : Phys nD τ sig (Elt F)) : Prop :=
  ∀ b ∈ ucRefs τ sig, s'.mem.mem (d, b) = vEnd m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (ucRefs τ sig)) $$ [HSI H]
  · isplitl [HSI]; · iexact HSI
    iexact H
  ipureintro
  exact fun b hb => h b hb

def QC : PUnit × MemSt nD τ sig (Elt F) → Prop := fun r =>
  (∀ d : Dev nD, ∀ b ∈ ucRefs τ sig, r.2.mem (d, b) = vEnd m d b) ∧ r.2.sem = fun _ => 0

/-- Every run of the program ends, each unscoped buffer at `vEnd`, every counter at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (callData m)) (A := ∅) facts v₀
    (fun q hq => match q with | 0 => nomatch hq)
    (fun q _ => match q with | 0 => tileObl (callData m) facts)
    (fun q _ => match q with | 0 => SparseCore.Cfg.VecSplit.of_plain (vecSplit (callData m)))
    m ρ main (fun d => scoreGhost (F := F) d) (FIN m) (u₀ (F := F)) (sep_elim_left.trans (hu₀ m)) (hmain m ρ) (fq m) (hfin m) (QC m)
    (fun _ h hz => ⟨h, hz⟩)

end Cert.Proof.Pool

end
-- ==== Proof.Frames.lean ====
/-
  The frames. The program's text is the same at words and at extended reals, so its run is proved once (Launch.lean)
  and read at both; no operation, and neither call, writes an argument.
-/
module

public import proofs.«01_k».proof.Proof.Launch
public import proofs.«01_k».proof.Proof.Gen.Kernel
public import proofs.«01_k».proof.Proof.Gen.ReferenceIdeal
public import proofs.«01_k».proof.Proof.Gen.ReferenceIdeal.Run

@[expose] public section

set_option maxRecDepth 16384

noncomputable section

namespace Cert.Proof.Pool

open Cert.KernelIdeal Cert.KernelIdeal.Gen
open Idealize.ShloMosaic
open Idealize.ShloMosaic.TcCoe
open Idealize.ShloMosaic.StableHlo (seqK after launchContents)
open Idealize.ShloMosaic.Pipeline (ucRefs)
open Idealize.SL.Sem

variable {F : FTy → Type} [FloatOps F]

variable (m : (ℓ : Loc nD τ sig) → Buf (Elt F) ℓ)

/-- An array no operation and no call writes is unchanged at the end. -/
theorem vEnd_kept (d : Dev nD) (r : Ref sig .tc) (hIn : r ∉ opsInW) (hArr : ∀ w, r ≠ Pipeline.arrRef cfg0.spec w)
    (hMid : r ∉ opsMidW) (hOut : r ∉ opsOutW) (hCall : (Proc.devRef .tc r : DevRef τ sig) ≠ Proc.devRef .tc main_v22) :
    vEnd m d (Proc.devRef .tc r) = m (d, Proc.devRef .tc r) := by
  unfold vEnd
  rw [opsOut_keeps _ hOut]
  unfold vCall
  rw [Function.update_of_ne hCall]
  unfold vMid
  rw [opsMid_keeps _ hMid]
  unfold vScore
  refine (Pipeline.afterRegion_of_not_arr (dats (vIn m) 0 d) (vIn m d) hArr).trans ?_
  unfold vIn
  rw [opsIn_keeps _ hIn]

theorem vEnd_arg0 (d : Dev nD) : vEnd m d (Proc.devRef .tc main_arg0) = m (d, Proc.devRef .tc main_arg0) :=
  vEnd_kept m d main_arg0 (by decide) (by decide) (by decide) (by decide) (by decide)
theorem vEnd_arg1 (d : Dev nD) : vEnd m d (Proc.devRef .tc main_arg1) = m (d, Proc.devRef .tc main_arg1) :=
  vEnd_kept m d main_arg1 (by decide) (by decide) (by decide) (by decide) (by decide)
theorem vEnd_arg2 (d : Dev nD) : vEnd m d (Proc.devRef .tc main_arg2) = m (d, Proc.devRef .tc main_arg2) :=
  vEnd_kept m d main_arg2 (by decide) (by decide) (by decide) (by decide) (by decide)
theorem vEnd_arg3 (d : Dev nD) : vEnd m d (Proc.devRef .tc main_arg3) = m (d, Proc.devRef .tc main_arg3) :=
  vEnd_kept m d main_arg3 (by decide) (by decide) (by decide) (by decide) (by decide)

theorem arg0_in : Proc.devRef .tc main_arg0 ∈ ucRefs τ sig := by decide
theorem arg1_in : Proc.devRef .tc main_arg1 ∈ ucRefs τ sig := by decide
theorem arg2_in : Proc.devRef .tc main_arg2 ∈ ucRefs τ sig := by decide
theorem arg3_in : Proc.devRef .tc main_arg3 ∈ ucRefs τ sig := by decide

/-- The arguments at the end of a run. -/
theorem args_kept {r : PUnit × MemSt nD τ sig (Elt F)} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h.1 c _ arg0_in).trans (vEnd_arg0 m c), (h.1 c _ arg1_in).trans (vEnd_arg1 m c),
    (h.1 c _ arg2_in).trans (vEnd_arg2 m c), (h.1 c _ arg3_in).trans (vEnd_arg3 m c)⟩

theorem frame_idealized : Cert.quiescent_KernelIdeal := fun m ρ _ =>
  (θ_run Cert.KernelIdeal.defs _ _).mono (fun _ h => ⟨args_kept m h, h.2⟩) (run_main (F := Ideal) m ρ)

/-! ## The program at words: the same text -/

theorem defs₀_same : Cert.Kernel.defs₀ (F := F) = Cert.KernelIdeal.defs₀ := by
  funext p ℓ a
  match p, ℓ, a with
  | .tc, 0, a => rfl
  | .tc, 1, a => rfl
  | .scScalar c, 0, a => rfl
  | .scScalar c, 1, a => rfl
  | .scVector c s, 0, a => rfl
  | .scVector c s, 1, a => rfl

set_option maxHeartbeats 1000000 in
theorem main_same (d : Dev nD) : Cert.Kernel.main (F := F) d = Cert.KernelIdeal.main d := by
  rw [main_lines d]; rfl

theorem defs_same : Cert.Kernel.defs (F := F) = Cert.KernelIdeal.defs :=
  congrArg (fun D => sc.defs (Pipeline.defs pcfgs D)) defs₀_same

theorem threads_same : Cert.Kernel.threads (F := F) = Cert.KernelIdeal.threads :=
  congrArg (fun M => sc.threads M) (funext main_same)

theorem run_kernel (m : (ℓ : Loc nD τ sig) → Buf (Elt Bits) ℓ) (ρ : Dev nD → PrngReg) :
    θ_run (Cert.Kernel.defs (F := Bits)) (Cert.Kernel.threads (F := Bits)) ⟨m, fun _ => 0, ρ⟩ (QC m) :=
  Eq.mpr (congrArg₂ (fun D T => θ_run D T ⟨m, fun _ => 0, ρ⟩ (QC m)) defs_same threads_same) (run_main (F := Bits) m ρ)

theorem frame_kernel : Cert.quiescent_Kernel := fun m ρ _ =>
  (θ_run (Cert.Kernel.defs (F := Bits)) (Cert.Kernel.threads (F := Bits)) ⟨m, fun _ => 0, ρ⟩).mono (fun _ h => ⟨args_kept m h, h.2⟩) (run_kernel m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Pool

end
-- ==== Proof.Scores.lean ====
/-
  The scores over the extended reals: after the TensorCore's call, entry (r, c) of its result is the sum over the 256
  lanes of the products of query row r and row c of the padded table.
-/
module

public import proofs.«01_k».proof.Proof.Region
public import Idealize.ShloMosaic.Lib.Pipeline.ValueKit
public import Idealize.ShloMosaic.Lib.MatmulPlain

@[expose] public section

set_option maxRecDepth 16384

noncomputable section

namespace Cert.Proof.Pool

open Cert.KernelIdeal Cert.KernelIdeal.Gen
open Idealize.ShloMosaic Idealize.ShloMosaic.TcCoe
open Idealize.ShloMosaic.Pipeline (Dat afterRegion)
open scoped BigOperators

/-- The inner products of the rows of two arrays of 256 lanes. -/
def innerRows {M N : ℕ} (q : (⟨2, ![M, 256]⟩ : Shape).Idx → Ideal .f32) (e : (⟨2, ![N, 256]⟩ : Shape).Idx → Ideal .f32) :
    (⟨2, ![M, N]⟩ : Shape).Idx → Ideal .f32 :=
  fun j => ∑ k : Fin 256, q (ValueIdx.ix2 (j 0) k) * e (ValueIdx.ix2 (j 1) k)

theorem score_dims : dot_S256x256_S6272x256_S256x6272_1_1_0_0_n_n = DotDims.transposedRhs 256 256 6272 := rfl

/-- A block of scores at an index. -/
theorem scoreBlock_apply (x0 : Vec Ideal S256x256 .f32) (x1 : Vec Ideal S6272x256 .f32) (y : S256x6272.Idx) :
    scoreBlock x0 x1 y = ∑ k : Fin 256, x0 (ValueIdx.ix2 (y 0) k) * x1 (ValueIdx.ix2 (y 1) k) := by
  unfold scoreBlock
  have e : View.canon [(⟨wholeS, k0_pay1 (View.ld x0 wholeQ) (View.ld x1 wholeE)⟩ : View.Piece (Elt Ideal) S256x6272 .f32)]
      = k0_pay1 (View.ld x0 wholeQ) (View.ld x1 wholeE) :=
    View.canon_cons_unit_lit inb_S256x6272_S256x6272_0_0 _ _ (by decide)
  rw [e, View.ld_unit_lit inb_S256x256_S256x256_0_0 x0 (by decide), View.ld_unit_lit inb_S6272x256_S6272x256_0_0 x1 (by decide)]
  unfold k0_pay1
  rw [shapeCast_self, shapeCast_self, score_dims, ValueIdx.eq_ix2 y]
  refine (Ideal.matmul_transposedRhs_apply none x0 x1 _ (y 0) (y 1)).trans ?_
  rw [show constant (F := Ideal) S256x6272 .f32 0x00000000#32 (ValueIdx.ix2 (y 0) (y 1)) = 0 from Ideal.ofBits_zero_f32, zero_add]

theorem idx_query : ∀ t : Fin cfg0.N, win0_0.index t 0 = win0_2.index t 0 ∧ win0_0.index t 1 = 0
    ∧ win0_1.index t 0 = win0_2.index t 1 ∧ win0_1.index t 1 = 0 :=
  (by decide +kernel : ∀ t : Fin grid0.N, win0_0.index t 0 = win0_2.index t 0 ∧ win0_0.index t 1 = 0
    ∧ win0_1.index t 0 = win0_2.index t 1 ∧ win0_1.index t 1 = 0)

theorem covers_scores : win0_2.Covers := by decide +kernel

/-- The call's result array. -/
theorem scores_arr (W : Entry Ideal) (c : Dev nD) :
    (dats W 0 c).arrAt 2 cfg0.N = innerRows (M := 1024) (N := 100352) (W c (Proc.devRef .tc main_v0)) (W c (Proc.devRef .tc main_v1)) := by
  refine (dats W 0 c).arrAt_eq_of_covers 2 _ covers_scores fun t hf y => ?_
  obtain ⟨e0, e1, e2, e3⟩ := idx_query t
  blk_simp
  rw [dats_after2]
  refine (scoreBlock_apply _ _ _).trans ?_
  show _ = innerRows _ _ _
  unfold innerRows
  refine Finset.sum_congr rfl fun k _ => ?_
  congr 1 <;> blk_ext [blockIn, e0, e1, e2, e3]
  · exact (win0_2.rect_emb_val t y 0).symm
  · exact (win0_2.rect_emb_val t y 1).symm

end Cert.Proof.Pool

end
-- ==== Proof.Topk.lean ====
/-
  Masking the padding columns with −∞ leaves the top 64 columns of a row what they are without those columns: in a
  stable sort by "greater", a column that holds −∞ goes before no column that stands to its left.
-/
module

public import proofs.«01_k».proof.Proof.Range
public import Idealize.ShloMosaic.Lib.SortFacts

@[expose] public section

set_option maxRecDepth 16384

noncomputable section

namespace Cert.Proof.Pool

open Cert.KernelIdeal Cert.KernelIdeal.Gen
open Idealize.ShloMosaic

/-! ## A stable sort and a tail that never comes first -/

section Sorting

variable {ι κ : Type} (f : ι → κ) {R : ι → ι → Bool} {R' : κ → κ → Bool} {P : List κ}

/-- An insertion among the images of a list, followed by entries that go before no image, is the insertion's image. -/
theorem insertBefore_front (hR : ∀ a b, R' (f a) (f b) = R a b) (hP : ∀ p ∈ P, ∀ a, R' p (f a) = false) (a : ι) :
    ∀ l : List ι, insertBefore R' (f a) (l.map f ++ P) = (insertBefore R a l).map f ++ P
  | [] => by
    cases P with
    | nil => rfl
    | cons p P =>
      show insertBefore R' (f a) (p :: P) = f a :: p :: P
      rw [insertBefore, if_neg (by rw [hP p List.mem_cons_self a]; decide)]
  | b :: l => by
    show insertBefore R' (f a) (f b :: (l.map f ++ P)) = _
    unfold insertBefore
    rw [hR b a]
    split
    · rw [List.map_cons, List.cons_append, insertBefore_front hR hP a l]
    · rfl

/-- So a stable sort of such a list sorts the two parts. -/
theorem stableSort_front (hR : ∀ a b, R' (f a) (f b) = R a b) (hP : ∀ p ∈ P, ∀ a, R' p (f a) = false) :
    ∀ l : List ι, stableSort R' (l.map f ++ P) = (stableSort R l).map f ++ stableSort R' P
  | [] => rfl
  | a :: l => by
    show insertBefore R' (f a) (stableSort R' (l.map f ++ P)) = _
    rw [stableSort_front hR hP l,
      insertBefore_front f hR (fun p hp => hP p ((perm_stableSort R' P).mem_iff.mp hp)) a]
    rfl

end Sorting

/-- The first `n` of `n + p` positions, then the rest. -/
theorem finRange_split (n p : ℕ) :
    List.finRange (n + p) = (List.finRange n).map (Fin.castAdd p) ++ (List.finRange p).map (Fin.natAdd n) := by
  apply List.ext_getElem
  · simp
  intro i h1 h2
  rw [List.getElem_append]
  split
  · simp
  · rename_i h
    simp at h
    simp
    omega

/-- Sorted positions below the length of the front are those of the front alone. -/
theorem sortedFrom_front {n p : ℕ} (R : Fin n → Fin n → Bool) (R' : Fin (n + p) → Fin (n + p) → Bool)
    (hR : ∀ a b, R' (Fin.castAdd p a) (Fin.castAdd p b) = R a b)
    (hP : ∀ (q : Fin p) (a : Fin n), R' (Fin.natAdd n q) (Fin.castAdd p a) = false) (i : Fin n) :
    sortedFrom R' (Fin.castAdd p i) = Fin.castAdd p (sortedFrom R i) := by
  have h : sortPositions (n + p) R' = (sortPositions n R).map (Fin.castAdd p) ++ stableSort R' ((List.finRange p).map (Fin.natAdd n)) := by
    unfold sortPositions
    rw [finRange_split]
    refine stableSort_front (Fin.castAdd p) hR (fun q hq a => ?_) _
    obtain ⟨q', -, rfl⟩ := List.mem_map.mp hq
    exact hP q' a
  unfold sortedFrom
  rw [List.get_eq_getElem, List.get_eq_getElem]
  have hl : i.val < ((sortPositions n R).map (Fin.castAdd p)).length := by
    rw [List.length_map, length_sortPositions]
    exact i.isLt
  have e : ∀ (L : List (Fin (n + p))) (hi : i.val < L.length), L = sortPositions (n + p) R' →
      (sortPositions (n + p) R')[i.val]'(by rw [length_sortPositions]; omega) = L[i.val] := by
    intro L hi hL
    subst hL
    rfl
  refine (e _ (by rw [List.length_append]; omega) h.symm).trans ?_
  rw [List.getElem_append_left hl, List.getElem_map]
  rfl

/-- The same, of `N` positions of which the first `n` are the front. -/
theorem sortedFrom_castLE {n N : ℕ} (hN : n ≤ N) (R : Fin n → Fin n → Bool) (R' : Fin N → Fin N → Bool)
    (hR : ∀ a b, R' (Fin.castLE hN a) (Fin.castLE hN b) = R a b)
    (hP : ∀ (q : Fin N) (a : Fin n), n ≤ q.val → R' q (Fin.castLE hN a) = false) (i : Fin n) :
    (sortedFrom R' (Fin.castLE hN i)).val = (sortedFrom R i).val := by
  obtain ⟨p, rfl⟩ := Nat.exists_eq_add_of_le hN
  exact congrArg Fin.val (sortedFrom_front R R' hR (fun q a => hP _ a (by rw [Fin.val_natAdd]; omega)) i)

/-! ## The masked scores -/

theorem mask_word : Ideal.ofBits .f32 0xFF800000#32 = ⊥ := by
  simp [Ideal.ofBits, Ideal.ieee]

theorem masked_apply (s : FVec Ideal S1024x100352 .f32) (r : Fin 1024) (c : Fin 100352) :
    masked s (cell r c) = if c.val < 100000 then s (cell r c) else ⊥ := by
  have hc : (BitVec.ofNat 32 c.val).toNat = c.val := by
    rw [BitVec.toNat_ofNat]
    have := c.isLt
    omega
  show (if IntOp.cmpi .slt (BitVec.ofNat 32 c.val) 100000#32 = 1#1 then s (cell r c) else Ideal.ofBits .f32 0xFF800000#32) = _
  rw [mask_word]
  have e : (IntOp.cmpi .slt (BitVec.ofNat 32 c.val) 100000#32 = 1#1) ↔ c.val < 100000 := by
    rw [WordCmp.cmpi_slt_ofNat (by have := c.isLt; omega) (by decide)]
    by_cases hlt : c.val < 100000
    · simp [hlt]
    · simp [hlt]
  simp only [e]

/-- The first 100000 columns of an array of 100352. -/
def cropped (s : FVec Ideal S1024x100352 .f32) : (⟨2, ![1024, 100000]⟩ : Shape).Idx → Ideal .f32 :=
  fun j => s (cell (j 0) (Fin.castLE (by decide) (j 1)))

theorem front_le : 100000 ≤ 100352 := by decide

/-- Sorting a masked row, position by position of the front. -/
theorem sorted_masked (s : FVec Ideal S1024x100352 .f32) (r : Fin 1024) (k : Fin 100000) :
    (sortedFrom (rowBefore (m := 1024) (n := 100352) (FloatOps.cmpfTotal (F := Ideal) (φ := .f32) .gt) (masked s) r) (Fin.castLE front_le k)).val
      = (sortedFrom (rowBefore (FloatOps.cmpfTotal (F := Ideal) (φ := .f32) .gt) (cropped s) r) k).val := by
  refine sortedFrom_castLE front_le _ _ (fun a b => ?_) (fun q a hq => ?_) k
  · unfold rowBefore
    rw [masked_apply, masked_apply, if_pos (show (Fin.castLE front_le a).val < 100000 from a.isLt),
      if_pos (show (Fin.castLE front_le b).val < 100000 from b.isLt)]
    rfl
  · unfold rowBefore
    rw [masked_apply s r q, if_neg (by omega)]
    have e : ∀ x : EReal, (BitVec.ofBool (decide (x < (⊥ : EReal))) == 1#1) = false := fun x => by
      rw [decide_eq_false not_lt_bot]
      rfl
    exact e (masked s (cell r (Fin.castLE front_le a)))

/-- The masked top-k lists the columns the top-k of the first 100000 columns lists. -/
theorem topCols_cropped (s : FVec Ideal S1024x100352 .f32) (i : S1024x64.Idx) :
    topCols s i = BitVec.ofNat 32 (sortedFrom (rowBefore (FloatOps.cmpfTotal (F := Ideal) (φ := .f32) .gt) (cropped s) (i 0))
      (Fin.castLE (by decide : 64 ≤ 100000) (i 1))).val :=
  (topCols_eq s i).trans (congrArg (BitVec.ofNat 32) (sorted_masked s (i 0) (Fin.castLE (by decide : 64 ≤ 100000) (i 1))))

end Cert.Proof.Pool

end
-- ==== Proof.Reference.lean ====
/-
  The reference over the extended reals: its scores, the columns its top-k lists, and the rows it gathers, read at an
  index.
-/
module

public import proofs.«01_k».proof.Proof.Scores
public import proofs.«01_k».proof.Proof.Topk
public import proofs.«01_k».proof.Proof.Gen.ReferenceIdeal
public import Idealize.ShloMosaic.Lib.StackMember

@[expose] public section

set_option maxRecDepth 16384

noncomputable section

namespace Cert.Proof.Pool

open Cert.ReferenceIdeal Cert.ReferenceIdeal.Gen
open Idealize.ShloMosaic
open scoped BigOperators

/-- The inner product of every query row with every table row. -/
def refScores (q : FVec Ideal S4x256x256 .f32) (e : FVec Ideal S100000x256 .f32) : FVec Ideal S1024x100000 .f32 :=
  Host.dotGeneral dot_S1024x256_S256x100000_S1024x100000_1_0_0_1_n_n none (shapeCast _ q shapeCasts_S4x256x256_S1024x256)
    (transpose S256x100000 [1, 0] e transposes_S100000x256_S256x100000_1_0)

/-- The columns of the 64 largest scores of every row. -/
def refCols (s : FVec Ideal S1024x100000 .f32) : IVec S1024x64 32 :=
  (Host.topK S1024x64 1 (FloatOps.cmpfTotal .gt) s sliceFits_S1024x100000_S1024x64).2

/-- An index below zero counts from the end. -/
def wrapped (x : IVec S1024x64 32) : IVec S1024x64 32 :=
  select (cmpi .slt x (broadcastInDim S1024x64 ![] bcast_S_S1024x64 (constantI S_ 32 0#32)))
    (addi x (broadcastInDim S1024x64 ![] bcast_S_S1024x64 (constantI S_ 32 100000#32))) x

/-- The table's rows at a list of indices. -/
def refRows (e : FVec Ideal S100000x256 .f32) (x : IVec S1024x64 32) : FVec Ideal S1024x64x256 .f32 :=
  Host.gather gather_S100000x256_S1024x64x1_S1024x64x256_2_0_n_n_0_2_1256 e
    (broadcastInDim S1024x64x1 ![0, 1] bcast_S1024x64_S1024x64x1_0_1 x)

/-- Which lanes lie below their row's limit. -/
def refWanted (k : IVec S4x256 32) : IVec S1024x64 1 :=
  cmpi .slt (broadcastInDim S1024x64 ![0, 1] bcast_S1x64_S1024x64_0_1 (broadcastInDim S1x64 ![1] bcast_S64_S1x64_1 (iotaInDim S64 32 0)))
    (broadcastInDim S1024x64 ![0, 1] bcast_S1024x1_S1024x64_0_1 (shapeCast _ k shapeCasts_S4x256_S1024x1))

/-- One on the lanes below the limit, zero on the others, along the whole row. -/
def refMask (k : IVec S4x256 32) : FVec Ideal S1024x64x256 .f32 :=
  broadcastInDim S1024x64x256 ![0, 1, 2] bcast_S1024x64x1_S1024x64x256_0_1_2
    (broadcastInDim S1024x64x1 ![0, 1] bcast_S1024x64_S1024x64x1_0_1 (uitofp .f32 (refWanted k)))

/-- The reference's result before its last reshape. -/
def refFlat (q : FVec Ideal S4x256x256 .f32) (e : FVec Ideal S100000x256 .f32) (k : IVec S4x256 32) : FVec Ideal S1024x64x256 .f32 :=
  mulf (refRows e (wrapped (refCols (refScores q e)))) (refMask k)

/-- The reference's result. -/
def refOut (q : FVec Ideal S4x256x256 .f32) (e : FVec Ideal S100000x256 .f32) (k : IVec S4x256 32) : FVec Ideal S4x256x64x256 .f32 :=
  shapeCast _ (refFlat q e k) shapeCasts_S1024x64x256_S4x256x64x256

/-! ## Read at an index -/

theorem ref_dims : dot_S1024x256_S256x100000_S1024x100000_1_0_0_1_n_n = DotDims.plain 1024 256 100000 := rfl

theorem refScores_eq (q : FVec Ideal S4x256x256 .f32) (e : FVec Ideal S100000x256 .f32) :
    refScores q e = innerRows (M := 1024) (N := 100000) (shapeCast S1024x256 q shapeCasts_S4x256x256_S1024x256) e := by
  funext j
  unfold refScores
  rw [ref_dims, ValueIdx.eq_ix2 j]
  refine (StackMember.dotGeneral_plain_apply none _ _ (j 0) (j 1)).trans ?_
  unfold innerRows
  refine Finset.sum_congr rfl fun c _ => ?_
  refine congrArg (fun v : EReal => _ * v) ?_
  refine congrArg e ?_
  funext a
  match a with
  | 0 => rfl
  | 1 => rfl

theorem refCols_eq (s : FVec Ideal S1024x100000 .f32) (i : S1024x64.Idx) :
    refCols s i = BitVec.ofNat 32 (sortedFrom (rowBefore (FloatOps.cmpfTotal (F := Ideal) (φ := .f32) .gt) s (i 0))
      (Fin.castLE (by decide : 64 ≤ 100000) (i 1))).val :=
  topK_index (m := 1024) (n := 100000) (k := 64) _ _ _ _ i

theorem refCols_lt (s : FVec Ideal S1024x100000 .f32) (i : S1024x64.Idx) : (refCols s i).toNat < 100000 := by
  rw [refCols_eq]
  have := (sortedFrom (rowBefore (FloatOps.cmpfTotal (F := Ideal) (φ := .f32) .gt) s (i 0)) (Fin.castLE (by decide : 64 ≤ 100000) (i 1))).isLt
  rw [BitVec.toNat_ofNat]
  omega

theorem wrapped_small (x : IVec S1024x64 32) (i : S1024x64.Idx) (hx : (x i).toNat < 100000) : wrapped x i = x i := by
  show (if IntOp.cmpi .slt (x i) 0#32 = 1#1 then IntOp.addi (x i) 100000#32 else x i) = _
  rw [WordCmp.cmpi_slt_zero, decide_eq_false (by omega), if_neg (by decide)]

/-- The start index of a gathered row. -/
theorem ref_start (y : S1024x64x256.Idx) :
    gather_S100000x256_S1024x64x1_S1024x64x256_2_0_n_n_0_2_1256.siIdx y ⟨0, Nat.one_pos⟩
      = fun a => match a with | 0 => y 0 | 1 => y 1 | 2 => (⟨0, Nat.one_pos⟩ : Fin 1) := by
  funext b
  refine Fin.ext ?_
  match b with
  | 0 => rfl
  | 1 => rfl
  | 2 => rfl

/-- A gathered row at a lane: the table's row of that number. -/
theorem refRows_apply (e : FVec Ideal S100000x256 .f32) (x : IVec S1024x64 32) (y : S1024x64x256.Idx)
    (T : Fin 100000) (hT : (x (cell (m := 1024) (n := 64) (y 0) (y 1))).toNat = T.val) :
    refRows e x y = e (cell (m := 100000) (n := 256) T (y 2)) := by
  unfold refRows Host.gather
  refine congrArg e ?_
  generalize hd : gather_S100000x256_S1024x64x1_S1024x64x256_2_0_n_n_0_2_1256 = d
  funext a
  refine Fin.ext ?_
  show d.start y _ a + d.batchCoord y a + d.offCoord y a = _
  subst hd
  have h01 : a = 0 ∨ a = 1 := by
    match a with
    | 0 => exact Or.inl rfl
    | 1 => exact Or.inr rfl
  rcases h01 with rfl | rfl
  · rw [GatherDims.batchCoord_eq_zero _ _ _ (fun h => List.not_mem_nil h),
      GatherDims.offCoord_eq_zero _ _ _ (fun h => ((GatherDims.mem_sKept _ _).mp h).1 (List.mem_singleton.mpr rfl))]
    unfold GatherDims.start
    rw [dif_pos (show (0 : Fin 2) ∈ gather_S100000x256_S1024x64x1_S1024x64x256_2_0_n_n_0_2_1256.startIndexMap from List.mem_singleton.mpr rfl)]
    have hv : broadcastInDim S1024x64x1 ![0, 1] bcast_S1024x64_S1024x64x1_0_1 x
        (gather_S100000x256_S1024x64x1_S1024x64x256_2_0_n_n_0_2_1256.siIdx y ⟨0, Nat.one_pos⟩)
        = x (cell (m := 1024) (n := 64) (y 0) (y 1)) := by
      rw [ref_start]
      refine congrArg x ?_
      funext b
      match b with
      | 0 => rfl
      | 1 => rfl
    show min (broadcastInDim S1024x64x1 ![0, 1] bcast_S1024x64_S1024x64x1_0_1 x
        (gather_S100000x256_S1024x64x1_S1024x64x256_2_0_n_n_0_2_1256.siIdx y ⟨0, Nat.one_pos⟩)).toInt.toNat (100000 - 1) + 0 + 0 = T.val
    rw [hv]
    have hlt := T.isLt
    have hi : (x (cell (m := 1024) (n := 64) (y 0) (y 1))).toInt = (x (cell (m := 1024) (n := 64) (y 0) (y 1))).toNat :=
      BitVec.toInt_eq_toNat_of_lt (by omega)
    rw [hi, hT]
    omega
  · rw [GatherDims.batchCoord_eq_zero _ _ _ (fun h => List.not_mem_nil h)]
    unfold GatherDims.start
    rw [dif_neg (show ¬ (1 : Fin 2) ∈ gather_S100000x256_S1024x64x1_S1024x64x256_2_0_n_n_0_2_1256.startIndexMap from by decide)]
    unfold GatherDims.offCoord
    rw [dif_pos (show (1 : Fin 2) ∈ gather_S100000x256_S1024x64x1_S1024x64x256_2_0_n_n_0_2_1256.sKept from
      (GatherDims.mem_sKept _ _).mpr ⟨by decide, fun h => List.not_mem_nil h⟩)]
    show 0 + 0 + (y 2).val = (y 2).val
    omega

/-- The mask's values. -/
theorem refMask_apply (k : IVec S4x256 32) (y : S1024x64x256.Idx) :
    refMask k y = if refWanted k (cell (m := 1024) (n := 64) (y 0) (y 1)) = 1#1 then (1 : EReal) else 0 := by
  have h : refMask k y = (((refWanted k (cell (m := 1024) (n := 64) (y 0) (y 1))).toNat : ℝ) : EReal) := by
    unfold refMask
    show ((((refWanted k _).toNat : ℝ)) : EReal) = _
    refine congrArg (fun w : BitVec 1 => ((w.toNat : ℝ) : EReal)) (congrArg (refWanted k) ?_)
    funext b
    match b with
    | 0 => rfl
    | 1 => rfl
  rw [h]
  generalize refWanted k (cell (m := 1024) (n := 64) (y 0) (y 1)) = w
  have hw : w = 0#1 ∨ w = 1#1 := by
    revert w
    decide
  rcases hw with rfl | rfl
  · simp
  · simp

end Cert.Proof.Pool

end
-- ==== Proof.Value.lean ====
/-
  The kernel's result over the extended reals is the reference's: a lane below its row's limit holds the table row of
  the same column, every other lane a row of zeros on one side and a row times zero on the other.
-/
module

public import proofs.«01_k».proof.Proof.Frames
public import proofs.«01_k».proof.Proof.Reference
public import Idealize.ShloMosaic.Lib.KernelVsHost

@[expose] public section

set_option maxRecDepth 16384

noncomputable section

namespace Cert.Proof.Pool

open Cert.KernelIdeal Cert.KernelIdeal.Gen
open Idealize.ShloMosaic
open Idealize.ShloMosaic.TcCoe
open Idealize.ShloMosaic.StableHlo (after launchContents)
open Idealize.ShloMosaic.Pipeline (ucRefs)
open Idealize.SL.Sem

/-! ## The padded table -/

theorem padded_front (e : FVec Ideal S100000x256 .f32) (T : Fin 100000) (h : Fin 256) :
    padded e (cell (m := 100352) (n := 256) (Fin.castLE front_le T) h) = e (cell (m := 100000) (n := 256) T h) := by
  unfold padded
  refine pad_apply_of_inside _ _ _ e _ _ _ _ _ fun a => ?_
  match a with
  | 0 => show T.val = 0 + T.val * (0 + 1); omega
  | 1 => show h.val = 0 + h.val * (0 + 1); omega

theorem padded_back (e : FVec Ideal S100000x256 .f32) (r : Fin 100352) (hr : 100000 ≤ r.val) (h : Fin 256) :
    padded e (cell (m := 100352) (n := 256) r h) = (0 : EReal) := by
  unfold padded
  refine (pad_apply_of_not_inside (s := S100000x256) (t := S100352x256) _ _ _ e _ _ _ _ 0 ?_).trans ?_
  · rintro ⟨-, -, h3⟩
    have h3' : (r.val - 0) / (0 + 1) < 100000 := h3
    rw [Nat.div_one] at h3'
    omega
  · show (((0#32 : BitVec 32).toInt : ℝ) : EReal) = 0
    simp

/-- The first 100000 columns of the scores are the reference's scores. -/
theorem cropped_scores (q : FVec Ideal S4x256x256 .f32) (e : FVec Ideal S100000x256 .f32) :
    cropped (innerRows (M := 1024) (N := 100352) (shapeCast S1024x256 q shapeCasts_S4x256x256_S1024x256) (padded e)) = refScores q e := by
  rw [refScores_eq]
  funext j
  unfold cropped innerRows
  refine Finset.sum_congr rfl fun k _ => ?_
  refine congrArg (fun v : EReal => _ * v) ?_
  refine Eq.trans (congrArg (padded e) ?_) ((padded_front e (j 1) k).trans (congrArg e ?_))
  · funext a
    match a with
    | 0 => rfl
    | 1 => rfl
  · funext a
    match a with
    | 0 => rfl
    | 1 => rfl

/-- The columns the kernel's top-k lists are the reference's. -/
theorem cols_eq (q : FVec Ideal S4x256x256 .f32) (e : FVec Ideal S100000x256 .f32) (i : S1024x64.Idx) :
    topCols (innerRows (M := 1024) (N := 100352) (shapeCast S1024x256 q shapeCasts_S4x256x256_S1024x256) (padded e)) i
      = refCols (refScores q e) i := by
  rw [topCols_cropped, cropped_scores]
  exact (refCols_eq _ i).symm

/-! ## The result as a function of the arguments -/

/-- The kernel's result. -/
def outOf (q : FVec Ideal S4x256x256 .f32) (e : FVec Ideal S100000x256 .f32) (k : IVec S4x256 32) : FVec Ideal S4x256x64x256 .f32 :=
  shapeCast S4x256x64x256
    (gat (F := Ideal) (shapeCast S100352x2x128 (padded e) shapeCasts_S100352x256_S100352x2x128)
      (rowList (innerRows (M := 1024) (N := 100352) (shapeCast S1024x256 q shapeCasts_S4x256x256_S1024x256) (padded e)) k))
    shapeCasts_S65536x2x128_S4x256x64x256

theorem flat_rows (h : S1024x64.numel = S65536.numel) (r : Fin 1024) (i : Fin 64) (a : S65536.Idx) (ha : (a 0).val = r.val * 64 + i.val) :
    Shape.reshapeEquiv h.symm a = cell (m := 1024) (n := 64) r i := by
  refine Shape.reshapeEquiv_eq_of_rowMajor _ ?_
  rw [Shape.rowMajor_val_two, Shape.rowMajor_val_one]
  show r.val * 64 + i.val = _
  omega

/-- A place of the fetched rows, and the table place it is read from. -/
theorem fetched (e : FVec Ideal S100352x256 .f32) (ix : S65536.Idx → BitVec 32) (x : S65536x2x128.Idx) (R : Fin 100352)
    (hR : ∀ a : S65536.Idx, (a 0).val = (x 0).val → (ix a).toNat = R.val) (h : Fin 256) (hh : (x 1).val * 128 + (x 2).val = h.val) :
    gat (F := Ideal) (shapeCast S100352x2x128 e shapeCasts_S100352x256_S100352x2x128) ix x = e (cell (m := 100352) (n := 256) R h) := by
  show e (Shape.reshapeEquiv _ (srcIdx ix x)) = _
  refine congrArg e (Shape.reshapeEquiv_eq_of_rowMajor _ ?_)
  rw [Shape.rowMajor_val_two, Shape.rowMajor_val_three]
  show R.val * 256 + h.val = (((ix _).toNat % 100352) * 2 + (x 1).val) * 128 + (x 2).val
  rw [hR _ rfl, Nat.mod_eq_of_lt R.isLt]
  omega

/-- The list of rows at a flat position: by lane. -/
theorem rowList_at (s : FVec Ideal S1024x100352 .f32) (k : IVec S4x256 32) (r : Fin 1024) (i : Fin 64) (a : S65536.Idx)
    (ha : (a 0).val = r.val * 64 + i.val) :
    rowList s k a = if wanted k (cell (m := 1024) (n := 64) r i) = 1#1 then topCols s (cell (m := 1024) (n := 64) r i)
      else spare (cell (m := 1024) (n := 64) r i) := by
  have e : rowList s k a = select (wanted k) (topCols s) spare (Shape.reshapeEquiv shapeCasts_S1024x64_S65536 a) := rfl
  rw [e, flat_rows shapeCasts_S1024x64_S65536.symm r i a ha]
  rfl

theorem wanted_eq (k : IVec S4x256 32) : wanted k = refWanted k := rfl

theorem out_eq (q : FVec Ideal S4x256x256 .f32) (e : FVec Ideal S100000x256 .f32) (k : IVec S4x256 32) :
    outOf q e k = refOut q e k := by
  funext j
  unfold outOf refOut
  show gat (F := Ideal) _ _ (Shape.reshapeEquiv shapeCasts_S65536x2x128_S4x256x64x256 j)
    = refFlat q e k (Shape.reshapeEquiv Cert.ReferenceIdeal.Facts₀.shapeCasts_S1024x64x256_S4x256x64x256 j)
  generalize hx : Shape.reshapeEquiv shapeCasts_S65536x2x128_S4x256x64x256 j = x
  generalize hy : Shape.reshapeEquiv Cert.ReferenceIdeal.Facts₀.shapeCasts_S1024x64x256_S4x256x64x256 j = y
  have hxy : (S65536x2x128.rowMajor x).val = (Cert.ReferenceIdeal.S1024x64x256.rowMajor y).val := by
    subst hx hy
    exact (Shape.rowMajor_reshapeEquiv _ j).trans (Shape.rowMajor_reshapeEquiv _ j).symm
  rw [Shape.rowMajor_val_three, Shape.rowMajor_val_three] at hxy
  have hxy' : ((x 0).val * 2 + (x 1).val) * 128 + (x 2).val = ((y 0).val * 64 + (y 1).val) * 256 + (y 2).val := hxy
  have b1 : (x 1).val < 2 := (x 1).isLt
  have b2 : (x 2).val < 128 := (x 2).isLt
  have c2 : (y 2).val < 256 := (y 2).isLt
  have hrow : (x 0).val = (y 0).val * 64 + (y 1).val := by omega
  have hlane : (x 1).val * 128 + (x 2).val = (y 2).val := by omega
  generalize hs : innerRows (M := 1024) (N := 100352) (shapeCast S1024x256 q shapeCasts_S4x256x256_S1024x256) (padded e) = s
  have hcols : ∀ i, topCols s i = refCols (refScores q e) i := fun i => by rw [← hs]; exact cols_eq q e i
  have hmul : refFlat q e k y = (refRows e (wrapped (refCols (refScores q e))) y : EReal) * refMask k y := rfl
  rw [hmul, refMask_apply, ← wanted_eq]
  by_cases hw : wanted k (cell (m := 1024) (n := 64) (y 0) (y 1)) = 1#1
  · have hlt := refCols_lt (refScores q e) (cell (m := 1024) (n := 64) (y 0) (y 1))
    have hl : ∀ a : S65536.Idx, (a 0).val = (x 0).val → (rowList s k a).toNat
        = (Fin.castLE front_le ⟨_, hlt⟩ : Fin 100352).val := fun a ha => by
      rw [rowList_at s k (y 0) (y 1) a (ha.trans hrow), if_pos hw, hcols]
      rfl
    rw [if_pos hw, mul_one, refRows_apply e _ y ⟨_, hlt⟩ (by rw [wrapped_small _ _ hlt])]
    exact (fetched (padded e) _ x _ hl (y 2) hlane).trans (padded_front e _ (y 2))
  · have hsp := spare_range (cell (m := 1024) (n := 64) (y 0) (y 1))
    have hl : ∀ a : S65536.Idx, (a 0).val = (x 0).val → (rowList s k a).toNat = (⟨_, hsp.2⟩ : Fin 100352).val := fun a ha => by
      rw [rowList_at s k (y 0) (y 1) a (ha.trans hrow), if_neg hw]
    rw [if_neg hw, mul_zero]
    exact (fetched (padded e) _ x _ hl (y 2) hlane).trans (padded_back e _ hsp.1 (y 2))

/-! ## The kernel's run -/

variable (m : (ℓ : Loc nD τ sig) → Buf (Elt Ideal) ℓ)

theorem launch_arg (d : Dev nD) (r : Ref sig .tc) :
    launchContents m d (Proc.devRef .tc r) = m ((d.tc : Thread nD τ).loc r) := rfl

theorem vScore_scores (d : Dev nD) : vScore m d (Proc.devRef .tc main_v2)
    = innerRows (M := 1024) (N := 100352)
        (shapeCast S1024x256 (m ((d.tc : Thread nD τ).loc main_arg0)) shapeCasts_S4x256x256_S1024x256)
        (padded (m ((d.tc : Thread nD τ).loc main_arg1))) := by
  rw [vScore_eq]
  refine (Pipeline.afterRegion_arr (dats (vIn m) 0 d) (vIn m d) winFacts0.arr_inj 2).trans ?_
  rw [scores_arr, vIn_eq, opsIn_query, opsIn_table]

theorem vScore_table (d : Dev nD) : vScore m d (Proc.devRef .tc main_v1)
    = (padded (F := Ideal) (m ((d.tc : Thread nD τ).loc main_arg1)) : FVec Ideal S100352x256 .f32) := by
  rw [vScore_eq]
  refine (Pipeline.afterRegion_arr (dats (vIn m) 0 d) (vIn m d) winFacts0.arr_inj 1).trans ?_
  rw [(dats (vIn m) 0 d).arrAt_in 1 rfl]
  show vIn m d (Proc.devRef .tc main_v1) = _
  rw [vIn_eq, opsIn_table]

theorem vScore_limits (d : Dev nD) : vScore m d (Proc.devRef .tc main_arg2) = m ((d.tc : Thread nD τ).loc main_arg2) := by
  rw [vScore_eq]
  refine (Pipeline.afterRegion_of_not_arr (dats (vIn m) 0 d) (vIn m d) (b := main_arg2) (by decide)).trans ?_
  rw [vIn_eq, opsIn_keeps _ (by decide)]

/-- What the SparseCores' call finds: the table, -/
theorem vMid_table (d : Dev nD) : vMid m d (Proc.devRef .tc main_v21)
      = (shapeCast S100352x2x128 (padded (F := Ideal) (m ((d.tc : Thread nD τ).loc main_arg1))) shapeCasts_S100352x256_S100352x2x128
        : FVec Ideal S100352x2x128 .f32) := by
    rw [vMid_eq, opsMid_table, vScore_table]

/-- and the list of rows. -/
theorem vMid_rows (d : Dev nD) : vMid m d (Proc.devRef .tc main_v20)
      = (rowList (F := Ideal) (innerRows (M := 1024) (N := 100352)
          (shapeCast S1024x256 (m ((d.tc : Thread nD τ).loc main_arg0)) shapeCasts_S4x256x256_S1024x256)
          (padded (m ((d.tc : Thread nD τ).loc main_arg1)))) (m ((d.tc : Thread nD τ).loc main_arg2)) : IVec S65536 32) :=
    (congrFun (vMid_eq m d) _).trans ((opsMid_rows (vScore m d)).trans
      (congrArg₂ (fun s k => rowList (F := Ideal) s k) (vScore_scores m d) (vScore_limits m d)))

attribute [local irreducible] vMid vScore vIn rowList padded innerRows

theorem call_table (d : Dev nD) : (callData m).tb d
    = (shapeCast S100352x2x128 (padded (F := Ideal) (m ((d.tc : Thread nD τ).loc main_arg1))) shapeCasts_S100352x256_S100352x2x128
        : FVec Ideal S100352x2x128 .f32) := vMid_table m d

theorem call_rows (d : Dev nD) : (callData m).ix d
    = (rowList (F := Ideal) (innerRows (M := 1024) (N := 100352)
          (shapeCast S1024x256 (m ((d.tc : Thread nD τ).loc main_arg0)) shapeCasts_S4x256x256_S1024x256)
          (padded (m ((d.tc : Thread nD τ).loc main_arg1)))) (m ((d.tc : Thread nD τ).loc main_arg2)) : IVec S65536 32) :=
  vMid_rows m d

theorem vCall_out (d : Dev nD) : vCall m d (Proc.devRef .tc main_v22) = gat ((callData m).tb d) ((callData m).ix d) :=
  Function.update_self _ _ _

/-- The kernel's result array at the end of a run. -/
theorem vEnd_result (d : Dev nD) : vEnd m d (Proc.devRef .tc main_v23)
    = outOf (m ((d.tc : Thread nD τ).loc main_arg0)) (m ((d.tc : Thread nD τ).loc main_arg1)) (m ((d.tc : Thread nD τ).loc main_arg2)) := by
  unfold vEnd
  refine (opsOut_result (vCall m d)).trans ?_
  rw [vCall_out, call_table, call_rows]
  unfold outOf
  rfl

theorem result_in : Proc.devRef .tc main_v23 ∈ ucRefs τ sig := by decide

theorem result_at {r : PUnit × MemSt nD τ sig (Elt Ideal)} (h : QC m r) (d : Dev nD) :
    r.2.mem ((d.tc : Thread nD τ).loc main_v23)
      = refOut (m ((d.tc : Thread nD τ).loc main_arg0)) (m ((d.tc : Thread nD τ).loc main_arg1)) (m ((d.tc : Thread nD τ).loc main_arg2)) :=
  (h.1 d _ result_in).trans ((vEnd_result m d).trans (out_eq _ _ _))

/-- From equal arguments, kernel and reference end with equal results. -/
theorem algebraic_whole : Cert.algebraic_KernelIdeal_ReferenceIdeal := fun m ρ m' ρ' _ hm =>
  ⟨fun c => refOut (m ((c.tc : Thread nD τ).loc main_arg0)) (m ((c.tc : Thread nD τ).loc main_arg1)) (m ((c.tc : Thread nD τ).loc main_arg2)),
    (θ_run Cert.KernelIdeal.defs _ _).mono (fun _ h c =>
      ⟨result_at m h c, args_kept m h c⟩) (run_main (F := Ideal) m ρ),
    (θ_run Cert.ReferenceIdeal.defs _ _).mono (fun r h c => by
      obtain ⟨h0, h1⟩ := h c
      obtain ⟨e0, e1, e2, -⟩ := hm c
      have e : refOut (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          = refOut (m ((c.tc : Thread nD τ).loc main_arg0)) (m ((c.tc : Thread nD τ).loc main_arg1)) (m ((c.tc : Thread nD τ).loc main_arg2)) :=
        congr (congr (congrArg refOut e0) e1) e2
      exact ⟨h0.trans e, h1⟩) (Cert.ReferenceIdeal.Value.run (F := Ideal) m' ρ')⟩

end Cert.Proof.Pool

end
-- ==== Proof.lean ====
/- The claims, from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Pool.frame_kernel, Pool.frame_idealized, Pool.frame_reference, trivial, Pool.algebraic_whole⟩

end Cert.Proof

end
